-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_denominator [hPre_unit_denominator : Cert.Pre_unit_denominator.Facts] (m : (ℓ : Loc Cert.KernelIdeal.nD Cert.KernelIdeal.τ Cert.KernelIdeal.sig) → Buf (Elt Ideal) ℓ) : Prop :=
  ∀ c : Dev Cert.KernelIdeal.nD,
    (Cert.Pre_unit_denominator.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_denominator [hPre_unit_denominator : Cert.Pre_unit_denominator.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_denominator.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unit_denominator [hKernelIdeal : Cert.KernelIdeal.Facts] [hPre_unit_denominator : Cert.Pre_unit_denominator.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_denominator m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_unit_denominator [hReferenceIdeal : Cert.ReferenceIdeal.Facts] [hPre_unit_denominator : Cert.Pre_unit_denominator.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_denominator m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_unit_denominator [hKernelIdeal : Cert.KernelIdeal.Facts] [hReferenceIdeal : Cert.ReferenceIdeal.Facts] [hPre_unit_denominator : Cert.Pre_unit_denominator.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_denominator m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_unit_denominator : Cert.Pre_unit_denominator.Facts),
    quiescent_Kernel (hKernel := hKernel)
    ∧ quiescent_KernelIdeal (hKernelIdeal := hKernelIdeal)
    ∧ quiescent_KernelIdeal_pre_unit_denominator (hKernelIdeal := hKernelIdeal) (hPre_unit_denominator := hPre_unit_denominator)
    ∧ quiescent_ReferenceIdeal (hReferenceIdeal := hReferenceIdeal)
    ∧ quiescent_ReferenceIdeal_pre_unit_denominator (hReferenceIdeal := hReferenceIdeal) (hPre_unit_denominator := hPre_unit_denominator)
    ∧ preserves_Kernel_KernelIdeal
    ∧ algebraic_KernelIdeal_ReferenceIdeal_pre_unit_denominator (hKernelIdeal := hKernelIdeal) (hReferenceIdeal := hReferenceIdeal) (hPre_unit_denominator := hPre_unit_denominator)
-- ==== Pre_unit_denominator.lean ====
abbrev S2048x2048 : Shape := ⟨2, ![2048, 2048]⟩
abbrev S32x32 : Shape := ⟨2, ![32, 32]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S32x32 .f32) (main_arg3 : IVec S_ 32) : IVec S2048x2048 1 :=
  let main_cst : FVec F S_ .f32 := constant S_ .f32 0x322BCC77#32
  let main_v0 : FVec F S2048x2048 .f32 := broadcastInDim S2048x2048 ![] bcast_S_S2048x2048 main_cst
  let main_v1 : FVec F S2048x2048 .f32 := addf main_arg1 main_v0
  let main_cst_0 : FVec F S_ .f32 := constant S_ .f32 0x3F800000#32
  let main_v2 : FVec F S2048x2048 .f32 := broadcastInDim S2048x2048 ![] bcast_S_S2048x2048 main_cst_0
  let main_v3 : IVec S2048x2048 1 := cmpf .oeq main_v1 main_v2
  main_v3
-- ==== Kernel.lean ====
abbrev S2048x2048 : Shape := ⟨2, ![2048, 2048]⟩
abbrev S32x32 : Shape := ⟨2, ![32, 32]⟩
abbrev S_ : Shape := ⟨0, ![]⟩
abbrev S64x64 : Shape := ⟨2, ![64, 64]⟩
abbrev S2 : Shape := ⟨1, ![2]⟩
abbrev S128x2048 : Shape := ⟨2, ![128, 2048]⟩
abbrev S16x64 : Shape := ⟨2, ![16, 64]⟩
abbrev S1 : Shape := ⟨1, ![1]⟩
abbrev S2048x64 : Shape := ⟨2, ![2048, 64]⟩
abbrev S4x128 : Shape := ⟨2, ![4, 128]⟩
abbrev S32x2048 : Shape := ⟨2, ![32, 2048]⟩
abbrev S4x2048 : Shape := ⟨2, ![4, 2048]⟩
abbrev S16x2048 : Shape := ⟨2, ![16, 2048]⟩
abbrev S1x16x64 : Shape := ⟨3, ![1, 16, 64]⟩
abbrev S1x1x1 : Shape := ⟨3, ![1, 1, 1]⟩

abbrev nBuf : Space → Nat
  | .hbm => 6
  | .vmem => 14
  | .smem => 3
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S32x32, .f32⟩
  | .hbm, ⟨3, _⟩ => ⟨S_, .i32⟩
  | .hbm, ⟨4, _⟩ => ⟨S64x64, .f32⟩
  | .hbm, ⟨5, _⟩ => ⟨S2, .i32⟩
  | .local _ .vmem, ⟨0, _⟩ => ⟨S32x32, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S16x64, .f32⟩
  | .local _ .vmem, ⟨10, _⟩ => ⟨S16x64, .f32⟩
  | .local _ .vmem, ⟨11, _⟩ => ⟨S128x2048, .f32⟩
  | .local _ .vmem, ⟨12, _⟩ => ⟨S2048x64, .f32⟩
  | .local _ .vmem, ⟨13, _⟩ => ⟨S4x128, .f32⟩
  | .local _ .smem, ⟨0, _⟩ => ⟨S2, .i32⟩
  | .local _ .smem, ⟨1, _⟩ => ⟨S1, .f32⟩
  | .local _ .smem, ⟨2, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg6_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v56 : BitVec 1 := Scalar.cmpi .eq arg0 c3_i32
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S2 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x2048 : Shape := ⟨2, ![2048, 2048]⟩
abbrev S32x32 : Shape := ⟨2, ![32, 32]⟩
abbrev S_ : Shape := ⟨0, ![]⟩
abbrev S1x32x1x32 : Shape := ⟨4, ![1, 32, 1, 32]⟩
abbrev S64x32x64x32 : Shape := ⟨4, ![64, 32, 64, 32]⟩
abbrev S64x64 : Shape := ⟨2, ![64, 64]⟩
abbrev S4096 : Shape := ⟨1, ![4096]⟩
abbrev S1 : Shape := ⟨1, ![1]⟩
abbrev S2 : Shape := ⟨1, ![2]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S32x32, .f32⟩
  | .hbm, ⟨3, _⟩ => ⟨S_, .i32⟩
  | .hbm, ⟨4, _⟩ => ⟨S1x32x1x32, .f32⟩
  | .hbm, ⟨5, _⟩ => ⟨S64x32x64x32, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S64x32x64x32, .f32⟩
  | .hbm, ⟨14, _⟩ => ⟨S_, .f32⟩
  | .hbm, ⟨15, _⟩ => ⟨S64x64, .f32⟩
  | .hbm, ⟨16, _⟩ => ⟨S4096, .f32⟩
  | .hbm, ⟨17, _⟩ => ⟨S4096, .i32⟩
  | .hbm, ⟨18, _⟩ => ⟨S_, .f32⟩
  | .hbm, ⟨19, _⟩ => ⟨S_, .i32⟩
  | .hbm, ⟨20, _⟩ => ⟨S_, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i1⟩
  | .hbm, ⟨48, _⟩ => ⟨S_, .i1⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S2, .i32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v11 : Ref sig .tc := ⟨.hbm, 21, rfl⟩
abbrev main_c : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c : Ref sig .tc := ⟨.hbm, 29, rfl⟩
abbrev main_call1_v6 : Ref sig .tc := ⟨.hbm, 30, rfl⟩
abbrev main_call1_v7 : Ref sig .tc := ⟨.hbm, 31, rfl⟩
abbrev main_call1_c_0 : Ref sig .tc := ⟨.hbm, 32, rfl⟩
abbrev main_call1_v8 : Ref sig .tc := ⟨.hbm, 33, rfl⟩
abbrev main_v12 : Ref sig .tc := ⟨.hbm, 34, rfl⟩
abbrev main_c_1 : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_c_1 : Ref sig .tc := ⟨.hbm, 42, rfl⟩
abbrev main_call2_v4 : Ref sig .tc := ⟨.hbm, 43, rfl⟩
abbrev main_call2_c_2 : Ref sig .tc := ⟨.hbm, 44, rfl⟩
abbrev main_call2_v5 : Ref sig .tc := ⟨.hbm, 45, rfl⟩
abbrev main_call2_c_3 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩

abbrev nD : Nat := 1
abbrev τ : Topo := Topo.v7x

variable {F : FTy → Type} [FloatOps F]
-- ==== Proof.Step.lean ====
module

public import proofs.«01_k».proof.Proof.Gen.KernelIdeal.Value
public import Idealize.ShloMosaic.Lib.Pipeline.Value
public import Idealize.ShloMosaic.Lib.Tactic

/-!
# One step of the kernel

What each of the kernel's steps leaves in the buffers it writes, as an expression over the blocks it reads. The kernel
runs four steps. The first one also prepares the repeated image and the two masks; the last one also writes the
position of the least distance.
-/

@[expose] public section

noncomputable section

open Idealize.ShloMosaic Idealize.ShloMosaic.TcCoe Idealize.SL.Sem

namespace Cert.KernelIdeal.Som

open Cert.KernelIdeal Cert.KernelIdeal.Gen

variable {F : FTy → Type} [FloatOps F]

theorem hz : (![0, 0] : Fin 2 → Nat) = fun _ => 0 := funext fun a => by fin_cases a <;> rfl

theorem hz1 : (![0] : Fin 1 → Nat) = fun _ => 0 := funext fun a => by fin_cases a; rfl

/-- Choosing between a value and itself gives that value. -/
theorem select_self {α : Type} (b : BitVec 1) (x : α) : Scalar.select b x x = x := by
  unfold Scalar.select; split <;> rfl

/-- The one index of an array of one element. -/
abbrev ix0 : S1.Idx := fun a => ⟨0, by fin_cases a; exact Nat.one_pos⟩

/-- Reading the one element of an array of one element. -/
theorem ld_first {e : EltTy} (x : Vec F S1 e) (inb : ∀ a, (![0] : Fin 1 → Nat) a + S1.size a ≤ S1.size a)
    (y : (Rect.unit (s := S1) ![0] S1.size inb).shape.Idx) : View.ld x (Rect.unit (s := S1) ![0] S1.size inb) y = x ix0 := by
  refine congrArg x (funext fun a => Fin.ext ?_)
  fin_cases a; exact Nat.lt_one_iff.mp (((Rect.unit (s := S1) ![0] S1.size inb).idx y) 0).isLt

/-- The mask of rows: row `u` marks the thirty-two rows of the image that belong to the `u`-th row of units. -/
abbrev amask : Vec F S4x128 .f32 :=
  k0_pay7 (iota .tc S4x128 32 [1] iota_S4x128_d1_w32) (iota .tc S4x128 32 [0] iota_S4x128_d0_w32) 32#32 k0_pay5 k0_pay6

/-- The position, among all the units, of the first place where the block `A` of step `i` holds `v`. -/
abbrev blockIdx (i : grid0.Coords) (A : FVec F S16x64 .f32) (v : F .f32) : BitVec 32 :=
  extractAt ![0, 0, 0]
    (k0_pay1 A v (iota .tc S16x64 32 [0] iota_S16x64_d0_w32) (iota .tc S16x64 32 [1] iota_S16x64_d1_w32)
      (Scalar.muli (BitVec.ofNat 32 (i 0).val) 16#32)) inpos_S1x1x1_p0_0_0

/-- The row of the position `v`: the quotient by sixty-four, rounded down. -/
def quotWord (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 64#32 0#32)) (Scalar.extui (Scalar.cmpi .slt 64#32 0#32))))
      (Scalar.cmpi .ne (Scalar.remsi v 64#32) 0#32))
    (Scalar.subi (Scalar.divsi v 64#32) 1#32) (Scalar.divsi v 64#32)

/-- The divisor of the remainder: sixty-four, or one in place of zero. -/
def divisor : BitVec 32 := Scalar.select (Scalar.cmpi .eq 64#32 0#32) 1#32 64#32

/-- The column of the position `v`: the remainder by sixty-four, with the sign of the divisor. -/
def remWord (v : BitVec 32) : BitVec 32 :=
  Scalar.select
    (Scalar.andi
      (Scalar.xori (Scalar.cmpi .slt (Scalar.remsi v divisor) 0#32) (Scalar.cmpi .slt divisor 0#32))
      (Scalar.cmpi .ne (Scalar.remsi v divisor) 0#32))
    (Scalar.addi (Scalar.remsi v divisor) divisor) (Scalar.remsi v divisor)

/-- Writing the first and then the second of two elements leaves those two. -/
theorem canon_pair (inb1 : ∀ a, (![1] : Fin 1 → Nat) a + S1.size a ≤ S2.size a)
    (inb0 : ∀ a, (![0] : Fin 1 → Nat) a + S1.size a ≤ S2.size a) (p q : BitVec 32) :
    View.canon (Val := Elt F) (s := S2) (e := .i32)
        [⟨Rect.unit (s := S2) ![1] S1.size inb1, fun _ => p⟩, ⟨Rect.unit (s := S2) ![0] S1.size inb0, fun _ => q⟩]
      = fun y => if (y 0).val = 0 then q else p := by
  funext y
  have hy : (y 0).val < 2 := (y 0).isLt
  by_cases h : (y 0).val = 0
  · have e : y = (Rect.unit (s := S2) ![0] S1.size inb0).emb ix0 :=
      funext fun a => Fin.ext (by fin_cases a; exact h)
    rw [if_pos h, View.canon_cons_of_not_mem]
    · rw [e, View.canon_cons_emb]
    · rw [Rect.mem_set_unit]
      intro hm
      have := (hm 0).1
      rw [h] at this
      exact absurd this (by decide)
  · have e : y = (Rect.unit (s := S2) ![1] S1.size inb1).emb ix0 :=
      funext fun a => Fin.ext (by fin_cases a; show (y 0).val = 1; omega)
    rw [if_neg h, e, View.canon_cons_emb]

/-- What the first step leaves in the block of distances: the squared distances of its sixteen rows of units. -/
theorem firstBlock
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : cond0_0 i) (hc1 : cond0_1 i) (hc2 : ¬cond0_2 i)
  (x0 : Vec F S32x32 .f32) (x1 x2 x3 x4 : Vec F S128x2048 .f32) :
    out0_A_5 c i a1 h1 a2 h2 a3 h3 a4 h4 a5 h5 a6 h6 a7 h7 a8 h8 a9 h9 a10 h10 a11 h11 a12 h12 hc0 hc1 hc2 x0 x1 x2 x3 x4
      = k0_pay8 (k0_pay3 x0) k0_pay4 amask x1 x2 x3 x4 := by
  unfold out0_A_5
  rw [View.read_writes_eq_canon _ _ _ (cover0_A_5 c i a1 h1 a2 h2 a3 h3 a4 h4 a5 h5 a6 h6 a7 h7 a8 h8 a9 h9 a10 h10 a11 h11 a12 h12 hc0 hc1 hc2 x0 x1 x2 x3 x4)]
  unfold kernelRun0_A
  dsimp only
  sl_unfold_words
  rw [View.canon_cons_unit_zero (S := S16x64) hz]
  simp only [View.readAt_eq_ld, h1.read_unread, h2.read_unread, h3.read_unread, h4.read_unread, h5.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]

/-- What the first step leaves as the least distance so far: the least of its own block. -/
theorem firstMin
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : cond0_0 i) (hc1 : cond0_1 i) (hc2 : ¬cond0_2 i)
  (x0 : Vec F S32x32 .f32) (x1 x2 x3 x4 : Vec F S128x2048 .f32) :
    sout0_A_0 c i a1 h1 a2 h2 a3 h3 a4 h4 a5 h5 a6 h6 a7 h7 a8 h8 a9 h9 a10 h10 a11 h11 a12 h12 hc0 hc1 hc2 x0 x1 x2 x3 x4
      = fun _ => k0_pay9 (k0_pay3 x0) k0_pay4 amask x1 x2 x3 x4 := by
  unfold sout0_A_0
  rw [View.read_writes_eq_canon _ _ _ (scover0_A_0 c i a1 h1 a2 h2 a3 h3 a4 h4 a5 h5 a6 h6 a7 h7 a8 h8 a9 h9 a10 h10 a11 h11 a12 h12 hc0 hc1 hc2 x0 x1 x2 x3 x4)]
  unfold kernelRun0_A
  dsimp only
  sl_unfold_words
  rw [View.canon_cons_unit_zero (S := S1) hz1]
  simp only [View.readAt_eq_ld, h1.read_unread, h2.read_unread, h3.read_unread, h4.read_unread, h5.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]
  funext y; exact select_self _ _

/-- What the first step leaves as the position of the least distance: the first position of its own block. -/
theorem firstIdx
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : cond0_0 i) (hc1 : cond0_1 i) (hc2 : ¬cond0_2 i)
  (x0 : Vec F S32x32 .f32) (x1 x2 x3 x4 : Vec F S128x2048 .f32) :
    sout0_A_1 c i a1 h1 a2 h2 a3 h3 a4 h4 a5 h5 a6 h6 a7 h7 a8 h8 a9 h9 a10 h10 a11 h11 a12 h12 hc0 hc1 hc2 x0 x1 x2 x3 x4
      = fun _ => blockIdx i (k0_pay8 (k0_pay3 x0) k0_pay4 amask x1 x2 x3 x4) (k0_pay9 (k0_pay3 x0) k0_pay4 amask x1 x2 x3 x4) := by
  unfold sout0_A_1
  rw [View.read_writes_eq_canon _ _ _ (scover0_A_1 c i a1 h1 a2 h2 a3 h3 a4 h4 a5 h5 a6 h6 a7 h7 a8 h8 a9 h9 a10 h10 a11 h11 a12 h12 hc0 hc1 hc2 x0 x1 x2 x3 x4)]
  unfold kernelRun0_A
  dsimp only
  sl_unfold_words
  rw [View.canon_cons_unit_zero (S := S1) hz1]
  simp only [View.readAt_eq_ld, h1.read_unread, h2.read_unread, h3.read_unread, h4.read_unread, h5.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]
  funext y; exact select_self _ _

/-- What the first step leaves as the repeated image. -/
theorem firstTile
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : cond0_0 i) (hc1 : cond0_1 i) (hc2 : ¬cond0_2 i)
  (x0 : Vec F S32x32 .f32) (x1 x2 x3 x4 : Vec F S128x2048 .f32) :
    sout0_A_2 c i a1 h1 a2 h2 a3 h3 a4 h4 a5 h5 a6 h6 a7 h7 a8 h8 a9 h9 a10 h10 a11 h11 a12 h12 hc0 hc1 hc2 x0 x1 x2 x3 x4
      = k0_pay3 x0 := by
  unfold sout0_A_2
  rw [View.read_writes_eq_canon _ _ _ (scover0_A_2 c i a1 h1 a2 h2 a3 h3 a4 h4 a5 h5 a6 h6 a7 h7 a8 h8 a9 h9 a10 h10 a11 h11 a12 h12 hc0 hc1 hc2 x0 x1 x2 x3 x4)]
  unfold kernelRun0_A
  dsimp only
  sl_unfold_words
  rw [View.canon_cons_unit_zero (S := S128x2048) hz]
  simp only [View.readAt_eq_ld, h1.read_unread, h2.read_unread, h3.read_unread, h4.read_unread, h5.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]

/-- What the first step leaves as the mask of columns. -/
theorem firstCols
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : cond0_0 i) (hc1 : cond0_1 i) (hc2 : ¬cond0_2 i)
  (x0 : Vec F S32x32 .f32) (x1 x2 x3 x4 : Vec F S128x2048 .f32) :
    sout0_A_3 c i a1 h1 a2 h2 a3 h3 a4 h4 a5 h5 a6 h6 a7 h7 a8 h8 a9 h9 a10 h10 a11 h11 a12 h12 hc0 hc1 hc2 x0 x1 x2 x3 x4
      = k0_pay4 := by
  unfold sout0_A_3
  rw [View.read_writes_eq_canon _ _ _ (scover0_A_3 c i a1 h1 a2 h2 a3 h3 a4 h4 a5 h5 a6 h6 a7 h7 a8 h8 a9 h9 a10 h10 a11 h11 a12 h12 hc0 hc1 hc2 x0 x1 x2 x3 x4)]
  unfold kernelRun0_A
  dsimp only
  sl_unfold_words
  rw [View.canon_cons_unit_zero (S := S2048x64) hz]

/-- What the first step leaves as the mask of rows. -/
theorem firstRows
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : cond0_0 i) (hc1 : cond0_1 i) (hc2 : ¬cond0_2 i)
  (x0 : Vec F S32x32 .f32) (x1 x2 x3 x4 : Vec F S128x2048 .f32) :
    sout0_A_4 c i a1 h1 a2 h2 a3 h3 a4 h4 a5 h5 a6 h6 a7 h7 a8 h8 a9 h9 a10 h10 a11 h11 a12 h12 hc0 hc1 hc2 x0 x1 x2 x3 x4
      = amask := by
  unfold sout0_A_4
  rw [View.read_writes_eq_canon _ _ _ (scover0_A_4 c i a1 h1 a2 h2 a3 h3 a4 h4 a5 h5 a6 h6 a7 h7 a8 h8 a9 h9 a10 h10 a11 h11 a12 h12 hc0 hc1 hc2 x0 x1 x2 x3 x4)]
  unfold kernelRun0_A
  dsimp only
  sl_unfold_words
  rw [View.canon_cons_unit_zero (S := S4x128) hz]

/-- What a middle step leaves in the block of distances, from the repeated image and the masks it finds. -/
theorem midBlock
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : ¬cond0_0 i) (hc1 : ¬cond0_1 i) (hc2 : ¬cond0_2 i)
  (x0 : Vec F S32x32 .f32) (x1 x2 x3 x4 : Vec F S128x2048 .f32)
  (xs0 : Vec F S1 .f32) (xs1 : Vec F S1 .i32) (xs2 : Vec F S128x2048 .f32) (xs3 : Vec F S2048x64 .f32) (xs4 : Vec F S4x128 .f32) :
    out0_B_5 c i a1 h1 a2 h2 a3 h3 a4 h4 a5 h5 a6 h6 a7 h7 a8 h8 a9 h9 a10 h10 a11 h11 a12 h12 hc0 hc1 hc2 x0 x1 x2 x3 x4 xs0 xs1 xs2 xs3 xs4
      = k0_pay8 xs2 xs3 xs4 x1 x2 x3 x4 := by
  unfold out0_B_5
  rw [View.read_writes_eq_canon _ _ _ (cover0_B_5 c i a1 h1 a2 h2 a3 h3 a4 h4 a5 h5 a6 h6 a7 h7 a8 h8 a9 h9 a10 h10 a11 h11 a12 h12 hc0 hc1 hc2 x0 x1 x2 x3 x4 xs0 xs1 xs2 xs3 xs4)]
  unfold kernelRun0_B
  dsimp only
  sl_unfold_words
  rw [View.canon_cons_unit_zero (S := S16x64) hz]
  simp only [View.readAt_eq_ld, h1.read_unread, h2.read_unread, h3.read_unread, h4.read_unread, h5.read_unread, h8.read_unread, h9.read_unread, h10.read_unread, h11.read_unread, h12.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]

/-- What a middle step leaves as the least distance so far: its own block's least where that is strictly less than the one it finds. -/
theorem midMin
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : ¬cond0_0 i) (hc1 : ¬cond0_1 i) (hc2 : ¬cond0_2 i)
  (x0 : Vec F S32x32 .f32) (x1 x2 x3 x4 : Vec F S128x2048 .f32)
  (xs0 : Vec F S1 .f32) (xs1 : Vec F S1 .i32) (xs2 : Vec F S128x2048 .f32) (xs3 : Vec F S2048x64 .f32) (xs4 : Vec F S4x128 .f32) :
    sout0_B_0 c i a1 h1 a2 h2 a3 h3 a4 h4 a5 h5 a6 h6 a7 h7 a8 h8 a9 h9 a10 h10 a11 h11 a12 h12 hc0 hc1 hc2 x0 x1 x2 x3 x4 xs0 xs1 xs2 xs3 xs4
      = fun _ => Scalar.select (Scalar.cmpf .olt (k0_pay9 xs2 xs3 xs4 x1 x2 x3 x4) (xs0 ix0)) (k0_pay9 xs2 xs3 xs4 x1 x2 x3 x4) (xs0 ix0) := by
  unfold sout0_B_0
  rw [View.read_writes_eq_canon _ _ _ (scover0_B_0 c i a1 h1 a2 h2 a3 h3 a4 h4 a5 h5 a6 h6 a7 h7 a8 h8 a9 h9 a10 h10 a11 h11 a12 h12 hc0 hc1 hc2 x0 x1 x2 x3 x4 xs0 xs1 xs2 xs3 xs4)]
  unfold kernelRun0_B
  dsimp only
  sl_unfold_words
  rw [View.canon_cons_unit_zero (S := S1) hz1]
  simp only [View.readAt_eq_ld, h1.read_unread, h2.read_unread, h3.read_unread, h4.read_unread, h5.read_unread, h8.read_unread, h9.read_unread, h10.read_unread, h11.read_unread, h12.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]
  funext y
  rw [ld_first]
  rfl

/-- What a middle step leaves as the position of the least distance: its own block's first position where its block's least is strictly less. -/
theorem midIdx
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : ¬cond0_0 i) (hc1 : ¬cond0_1 i) (hc2 : ¬cond0_2 i)
  (x0 : Vec F S32x32 .f32) (x1 x2 x3 x4 : Vec F S128x2048 .f32)
  (xs0 : Vec F S1 .f32) (xs1 : Vec F S1 .i32) (xs2 : Vec F S128x2048 .f32) (xs3 : Vec F S2048x64 .f32) (xs4 : Vec F S4x128 .f32) :
    sout0_B_1 c i a1 h1 a2 h2 a3 h3 a4 h4 a5 h5 a6 h6 a7 h7 a8 h8 a9 h9 a10 h10 a11 h11 a12 h12 hc0 hc1 hc2 x0 x1 x2 x3 x4 xs0 xs1 xs2 xs3 xs4
      = fun _ => Scalar.select (Scalar.cmpf .olt (k0_pay9 xs2 xs3 xs4 x1 x2 x3 x4) (xs0 ix0)) (blockIdx i (k0_pay8 xs2 xs3 xs4 x1 x2 x3 x4) (k0_pay9 xs2 xs3 xs4 x1 x2 x3 x4)) (xs1 ix0) := by
  unfold sout0_B_1
  rw [View.read_writes_eq_canon _ _ _ (scover0_B_1 c i a1 h1 a2 h2 a3 h3 a4 h4 a5 h5 a6 h6 a7 h7 a8 h8 a9 h9 a10 h10 a11 h11 a12 h12 hc0 hc1 hc2 x0 x1 x2 x3 x4 xs0 xs1 xs2 xs3 xs4)]
  unfold kernelRun0_B
  dsimp only
  sl_unfold_words
  rw [View.canon_cons_unit_zero (S := S1) hz1]
  simp only [View.readAt_eq_ld, h1.read_unread, h2.read_unread, h3.read_unread, h4.read_unread, h5.read_unread, h8.read_unread, h9.read_unread, h10.read_unread, h11.read_unread, h12.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]
  funext y
  rw [ld_first, ld_first]

/-- What the last step leaves in the block of distances, from the repeated image and the masks it finds. -/
theorem lastBlock
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : ¬cond0_0 i) (hc1 : ¬cond0_1 i) (hc2 : cond0_2 i)
  (x0 : Vec F S32x32 .f32) (x1 x2 x3 x4 : Vec F S128x2048 .f32)
  (xs0 : Vec F S1 .f32) (xs1 : Vec F S1 .i32) (xs2 : Vec F S128x2048 .f32) (xs3 : Vec F S2048x64 .f32) (xs4 : Vec F S4x128 .f32) :
    out0_C_5 c i a1 h1 a2 h2 a3 h3 a4 h4 a5 h5 a6 h6 a7 h7 a8 h8 a9 h9 a10 h10 a11 h11 a12 h12 hc0 hc1 hc2 x0 x1 x2 x3 x4 xs0 xs1 xs2 xs3 xs4
      = k0_pay8 xs2 xs3 xs4 x1 x2 x3 x4 := by
  unfold out0_C_5
  rw [View.read_writes_eq_canon _ _ _ (cover0_C_5 c i a1 h1 a2 h2 a3 h3 a4 h4 a5 h5 a6 h6 a7 h7 a8 h8 a9 h9 a10 h10 a11 h11 a12 h12 hc0 hc1 hc2 x0 x1 x2 x3 x4 xs0 xs1 xs2 xs3 xs4)]
  unfold kernelRun0_C
  dsimp only
  sl_unfold_words
  rw [View.canon_cons_unit_zero (S := S16x64) hz]
  simp only [View.readAt_eq_ld, h1.read_unread, h2.read_unread, h3.read_unread, h4.read_unread, h5.read_unread, h8.read_unread, h9.read_unread, h10.read_unread, h11.read_unread, h12.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]

/-- What the last step leaves as the least distance so far: its own block's least where that is strictly less than the one it finds. -/
theorem lastMin
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : ¬cond0_0 i) (hc1 : ¬cond0_1 i) (hc2 : cond0_2 i)
  (x0 : Vec F S32x32 .f32) (x1 x2 x3 x4 : Vec F S128x2048 .f32)
  (xs0 : Vec F S1 .f32) (xs1 : Vec F S1 .i32) (xs2 : Vec F S128x2048 .f32) (xs3 : Vec F S2048x64 .f32) (xs4 : Vec F S4x128 .f32) :
    sout0_C_0 c i a1 h1 a2 h2 a3 h3 a4 h4 a5 h5 a6 h6 a7 h7 a8 h8 a9 h9 a10 h10 a11 h11 a12 h12 hc0 hc1 hc2 x0 x1 x2 x3 x4 xs0 xs1 xs2 xs3 xs4
      = fun _ => Scalar.select (Scalar.cmpf .olt (k0_pay9 xs2 xs3 xs4 x1 x2 x3 x4) (xs0 ix0)) (k0_pay9 xs2 xs3 xs4 x1 x2 x3 x4) (xs0 ix0) := by
  unfold sout0_C_0
  rw [View.read_writes_eq_canon _ _ _ (scover0_C_0 c i a1 h1 a2 h2 a3 h3 a4 h4 a5 h5 a6 h6 a7 h7 a8 h8 a9 h9 a10 h10 a11 h11 a12 h12 hc0 hc1 hc2 x0 x1 x2 x3 x4 xs0 xs1 xs2 xs3 xs4)]
  unfold kernelRun0_C
  dsimp only
  sl_unfold_words
  rw [View.canon_cons_unit_zero (S := S1) hz1]
  simp only [View.readAt_eq_ld, h1.read_unread, h2.read_unread, h3.read_unread, h4.read_unread, h5.read_unread, h8.read_unread, h9.read_unread, h10.read_unread, h11.read_unread, h12.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]
  funext y
  rw [ld_first]
  rfl

/-- What the last step leaves as the position of the least distance: its own block's first position where its block's least is strictly less. -/
theorem lastIdx
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : ¬cond0_0 i) (hc1 : ¬cond0_1 i) (hc2 : cond0_2 i)
  (x0 : Vec F S32x32 .f32) (x1 x2 x3 x4 : Vec F S128x2048 .f32)
  (xs0 : Vec F S1 .f32) (xs1 : Vec F S1 .i32) (xs2 : Vec F S128x2048 .f32) (xs3 : Vec F S2048x64 .f32) (xs4 : Vec F S4x128 .f32) :
    sout0_C_1 c i a1 h1 a2 h2 a3 h3 a4 h4 a5 h5 a6 h6 a7 h7 a8 h8 a9 h9 a10 h10 a11 h11 a12 h12 hc0 hc1 hc2 x0 x1 x2 x3 x4 xs0 xs1 xs2 xs3 xs4
      = fun _ => Scalar.select (Scalar.cmpf .olt (k0_pay9 xs2 xs3 xs4 x1 x2 x3 x4) (xs0 ix0)) (blockIdx i (k0_pay8 xs2 xs3 xs4 x1 x2 x3 x4) (k0_pay9 xs2 xs3 xs4 x1 x2 x3 x4)) (xs1 ix0) := by
  unfold sout0_C_1
  rw [View.read_writes_eq_canon _ _ _ (scover0_C_1 c i a1 h1 a2 h2 a3 h3 a4 h4 a5 h5 a6 h6 a7 h7 a8 h8 a9 h9 a10 h10 a11 h11 a12 h12 hc0 hc1 hc2 x0 x1 x2 x3 x4 xs0 xs1 xs2 xs3 xs4)]
  unfold kernelRun0_C
  dsimp only
  sl_unfold_words
  rw [View.canon_cons_unit_zero (S := S1) hz1]
  simp only [View.readAt_eq_ld, h1.read_unread, h2.read_unread, h3.read_unread, h4.read_unread, h5.read_unread, h8.read_unread, h9.read_unread, h10.read_unread, h11.read_unread, h12.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]
  funext y
  rw [ld_first, ld_first]

/-- What the last step leaves as the position found: the row and the column of the final position. -/
theorem lastBmu
  (c : Dev nD) (i : grid0.Coords)
  (a1 : Memref sig .tc .vmem S32x32 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S128x2048 .f32) (h5 : a5.IsWhole)
  (a6 : Memref sig .tc .vmem S16x64 .f32) (h6 : a6.IsWhole)
  (a7 : Memref sig .tc .smem S2 .i32) (h7 : a7.IsWhole)
  (a8 : Memref sig .tc .smem S1 .f32) (h8 : a8.IsWhole)
  (a9 : Memref sig .tc .smem S1 .i32) (h9 : a9.IsWhole)
  (a10 : Memref sig .tc .vmem S128x2048 .f32) (h10 : a10.IsWhole)
  (a11 : Memref sig .tc .vmem S2048x64 .f32) (h11 : a11.IsWhole)
  (a12 : Memref sig .tc .vmem S4x128 .f32) (h12 : a12.IsWhole)
  (hc0 : ¬cond0_0 i) (hc1 : ¬cond0_1 i) (hc2 : cond0_2 i)
  (x0 : Vec F S32x32 .f32) (x1 x2 x3 x4 : Vec F S128x2048 .f32)
  (xs0 : Vec F S1 .f32) (xs1 : Vec F S1 .i32) (xs2 : Vec F S128x2048 .f32) (xs3 : Vec F S2048x64 .f32) (xs4 : Vec F S4x128 .f32) :
    out0_C_6 c i a1 h1 a2 h2 a3 h3 a4 h4 a5 h5 a6 h6 a7 h7 a8 h8 a9 h9 a10 h10 a11 h11 a12 h12 hc0 hc1 hc2 x0 x1 x2 x3 x4 xs0 xs1 xs2 xs3 xs4
      = fun y => if (y 0).val = 0 then quotWord (Scalar.select (Scalar.cmpf .olt (k0_pay9 xs2 xs3 xs4 x1 x2 x3 x4) (xs0 ix0)) (blockIdx i (k0_pay8 xs2 xs3 xs4 x1 x2 x3 x4) (k0_pay9 xs2 xs3 xs4 x1 x2 x3 x4)) (xs1 ix0))
        else remWord (Scalar.select (Scalar.cmpf .olt (k0_pay9 xs2 xs3 xs4 x1 x2 x3 x4) (xs0 ix0)) (blockIdx i (k0_pay8 xs2 xs3 xs4 x1 x2 x3 x4) (k0_pay9 xs2 xs3 xs4 x1 x2 x3 x4)) (xs1 ix0)) := by
  unfold out0_C_6
  rw [View.read_writes_eq_canon _ _ _ (cover0_C_6 c i a1 h1 a2 h2 a3 h3 a4 h4 a5 h5 a6 h6 a7 h7 a8 h8 a9 h9 a10 h10 a11 h11 a12 h12 hc0 hc1 hc2 x0 x1 x2 x3 x4 xs0 xs1 xs2 xs3 xs4)]
  unfold kernelRun0_C
  dsimp only
  sl_unfold_words
  simp only [View.readAt_eq_ld, h1.read_unread, h2.read_unread, h3.read_unread, h4.read_unread, h5.read_unread, h8.read_unread, h9.read_unread, h10.read_unread, h11.read_unread, h12.read_unread, View.ld_unit_zero (S := S32x32) hz, View.ld_unit_zero (S := S128x2048) hz, View.ld_unit_zero (S := S2048x64) hz, View.ld_unit_zero (S := S4x128) hz, View.ld_unit_zero (S := S1) hz1, View.readCov_unit_zero (S := S128x2048) _ hz, View.readCov_unit_zero (S := S2048x64) _ hz, View.readCov_unit_zero (S := S4x128) _ hz, View.readCov_unit_zero (S := S1) _ hz1]
  refine (canon_pair _ _ _ _).trans ?_
  rw [ld_first, ld_first]
  rfl

end Cert.KernelIdeal.Som

end
-- ==== Proof.State.lean ====
module

public import proofs.«01_k».proof.Proof.Step

/-!
# The four steps together

What the four steps leave, one after another: each step's block of distances is computed from the image and from the
step's own four blocks of units, and the pair "least distance so far, position of it" is updated by each step.
-/

@[expose] public section

noncomputable section

open Idealize.ShloMosaic Idealize.ShloMosaic.TcCoe Idealize.SL.Sem

namespace Cert.KernelIdeal.Som

open Cert.KernelIdeal Cert.KernelIdeal.Gen

variable {F : FTy → Type} [FloatOps F]

variable (m : (ℓ : Loc nD τ sig) → Buf (Elt F) ℓ) (c : Dev nD)

/-- The first step. -/
abbrev step0 : Fin cfg0.N := ⟨0, by rw [show cfg0.N = 4 from N_0]; decide⟩

/-- The repeated image, which the first step prepares. -/
abbrev tile : Vec F S128x2048 .f32 := k0_pay3 (iblk m c 0 step0)

/-- The block of distances of step `t`. -/
abbrev dist (t : Fin cfg0.N) : FVec F S16x64 .f32 :=
  k0_pay8 (tile m c) k0_pay4 amask (iblk m c 1 t) (iblk m c 2 t) (iblk m c 3 t) (iblk m c 4 t)

/-- The least distance in the block of step `t`. -/
abbrev least (t : Fin cfg0.N) : F .f32 :=
  k0_pay9 (tile m c) k0_pay4 amask (iblk m c 1 t) (iblk m c 2 t) (iblk m c 3 t) (iblk m c 4 t)

/-- The position of the first place where the block of step `t` holds its least distance. -/
abbrev leastIdx (t : Fin cfg0.N) : BitVec 32 := blockIdx (grid0.coords t) (dist m c t) (least m c t)

/-- The least distance of the steps up to the `n`-th and its position. -/
def best : (n : ℕ) → n < cfg0.N → F .f32 × BitVec 32
  | 0, hn => (least m c ⟨0, hn⟩, leastIdx m c ⟨0, hn⟩)
  | n + 1, hn =>
    (Scalar.select (Scalar.cmpf .olt (least m c ⟨n + 1, hn⟩) (best n (Nat.lt_of_succ_lt hn)).1)
        (least m c ⟨n + 1, hn⟩) (best n (Nat.lt_of_succ_lt hn)).1,
      Scalar.select (Scalar.cmpf .olt (least m c ⟨n + 1, hn⟩) (best n (Nat.lt_of_succ_lt hn)).1)
        (leastIdx m c ⟨n + 1, hn⟩) (best n (Nat.lt_of_succ_lt hn)).2)

/-- The buffers after step `n`: the step's block of distances, the least distance so far and its position, the repeated
image and the two masks. -/
theorem state (n : ℕ) (hn : n < cfg0.N) :
    (outsAt0 m c n hn).1 = dist m c ⟨n, hn⟩
      ∧ ((outsAt0 m c n hn).2.2.1 = fun _ => (best m c n hn).1)
      ∧ ((outsAt0 m c n hn).2.2.2.1 = fun _ => (best m c n hn).2)
      ∧ (outsAt0 m c n hn).2.2.2.2.1 = tile m c
      ∧ (outsAt0 m c n hn).2.2.2.2.2.1 = k0_pay4
      ∧ (outsAt0 m c n hn).2.2.2.2.2.2 = amask := by
  induction n with
  | zero =>
    rw [show outsAt0 m c 0 hn = _ from outsAt0_A m c ⟨0, hn⟩ rfl rfl (by dsimp only; omega)]
    dsimp only
    rw [firstBlock, firstMin, firstIdx, firstTile, firstCols, firstRows]
    simp only [best]
    exact ⟨trivial, trivial, trivial, trivial, trivial, trivial⟩
  | succ n ih =>
    have hN : n + 1 < 4 := lt_of_lt_of_eq hn (show cfg0.N = 4 from N_0)
    obtain ⟨-, e0, e1, e2, e3, e4⟩ := ih (Nat.lt_of_succ_lt hn)
    by_cases h2 : (n + 1) % 4 = 3
    · rw [show outsAt0 m c (n + 1) hn = _ from outsAt0_C m c ⟨n + 1, hn⟩ (by dsimp only; omega) (by dsimp only; omega) h2]
      dsimp only [Nat.add_sub_cancel]
      rw [lastBlock, lastMin, lastIdx]
      simp only [Nat.add_sub_cancel, e0, e1, e2, e3, e4]
      exact ⟨trivial, rfl, rfl, rfl, rfl, rfl⟩
    · rw [show outsAt0 m c (n + 1) hn = _ from outsAt0_B m c ⟨n + 1, hn⟩ (by dsimp only; omega) (by dsimp only; omega) h2]
      dsimp only [Nat.add_sub_cancel]
      rw [midBlock, midMin, midIdx]
      simp only [Nat.add_sub_cancel, e0, e1, e2, e3, e4]
      exact ⟨trivial, rfl, rfl, rfl, rfl, rfl⟩

/-- What the last step leaves as the position found: the row and the column of the position of the least distance. -/
theorem state_bmu (n : ℕ) (hn : n < cfg0.N) (h3 : n = 3) :
    (outsAt0 m c n hn).2.1 = fun y => if (y 0).val = 0 then quotWord (best m c n hn).2 else remWord (best m c n hn).2 := by
  subst h3
  obtain ⟨-, e0, e1, e2, e3, e4⟩ := state m c 2 (Nat.lt_of_succ_lt hn)
  rw [show outsAt0 m c 3 hn = _ from outsAt0_C m c ⟨3, hn⟩ (by dsimp only; omega) (by dsimp only; omega) rfl]
  dsimp only [Nat.add_sub_cancel]
  rw [lastBmu]
  simp only [Nat.reduceSub, e0, e1, e2, e3, e4]
  rfl

end Cert.KernelIdeal.Som

end
-- ==== Proof.Blocks.lean ====
module

public import proofs.«01_k».proof.Proof.State
public import Idealize.ShloMosaic.Lib.Pipeline.Value
public import Idealize.ShloMosaic.Lib.Pointwise

/-!
# What each step reads

The image is read whole by every step. Step `t` reads four blocks of 128 rows of units, one after another, from row
`512 * t` on.
-/

@[expose] public section

noncomputable section

open Idealize.ShloMosaic Idealize.ShloMosaic.TcCoe Idealize.SL.Sem

namespace Cert.KernelIdeal.Som

open Cert.KernelIdeal Cert.KernelIdeal.Gen

variable {F : FTy → Type} [FloatOps F]

variable (m : (ℓ : Loc nD τ sig) → Buf (Elt F) ℓ) (c : Dev nD)

/-- There are four steps. -/
theorem lt4 (t : Fin cfg0.N) : t.val < 4 := lt_of_lt_of_eq t.isLt (show cfg0.N = 4 from N_0)

/-- The image, read whole. -/
theorem read_image (t : Fin cfg0.N) : (iblk m c 0 t : Vec F S32x32 .f32) = m ((c : Thread nD τ).loc main_arg2) := by
  have hi : win0_0.index t 0 = 0 ∧ win0_0.index t 1 = 0 := by
    rcases fin_N0 t with rfl | rfl | rfl | rfl <;> decide +kernel
  funext y
  unfold iblk
  rw [View.read_apply]
  show V m c main_arg2 _ = m (c.tc.loc main_arg2) _
  unfold V
  congr 1
  funext a
  apply Fin.ext
  match a with
  | ⟨0, _⟩ => show win0_0.index t 0 * 32 + 1 * (y 0).val = (y 0).val; rw [hi.1]; omega
  | ⟨1, _⟩ => show win0_0.index t 1 * 32 + 1 * (y 1).val = (y 1).val; rw [hi.2]; omega

/-- The first block of units of step `t`. -/
theorem read_units1 (t : Fin cfg0.N) (j : Fin 128) (k : Fin 2048) :
    iblk m c 1 t (ix2 j k) = m ((c : Thread nD τ).loc main_arg0) (ix2 ⟨32 * (16 * t.val) + j.val, by have := lt4 t; omega⟩ k) := by
  have hi : win0_1.index t 0 = 4 * t.val + 0 ∧ win0_1.index t 1 = 0 := by
    rcases fin_N0 t with rfl | rfl | rfl | rfl <;> decide +kernel
  unfold iblk
  rw [View.read_apply]
  show V m c main_arg0 _ = m (c.tc.loc main_arg0) _
  unfold V
  congr 1
  funext a
  apply Fin.ext
  match a with
  | ⟨0, _⟩ => show win0_1.index t 0 * 128 + 1 * j.val = 32 * (16 * t.val) + j.val; rw [hi.1]; omega
  | ⟨1, _⟩ => show win0_1.index t 1 * 2048 + 1 * k.val = k.val; rw [hi.2]; omega

/-- The second block of units of step `t`. -/
theorem read_units2 (t : Fin cfg0.N) (j : Fin 128) (k : Fin 2048) :
    iblk m c 2 t (ix2 j k) = m ((c : Thread nD τ).loc main_arg0) (ix2 ⟨32 * (16 * t.val + 4) + j.val, by have := lt4 t; omega⟩ k) := by
  have hi : win0_2.index t 0 = 4 * t.val + 1 ∧ win0_2.index t 1 = 0 := by
    rcases fin_N0 t with rfl | rfl | rfl | rfl <;> decide +kernel
  unfold iblk
  rw [View.read_apply]
  show V m c main_arg0 _ = m (c.tc.loc main_arg0) _
  unfold V
  congr 1
  funext a
  apply Fin.ext
  match a with
  | ⟨0, _⟩ => show win0_2.index t 0 * 128 + 1 * j.val = 32 * (16 * t.val + 4) + j.val; rw [hi.1]; omega
  | ⟨1, _⟩ => show win0_2.index t 1 * 2048 + 1 * k.val = k.val; rw [hi.2]; omega

/-- The third block of units of step `t`. -/
theorem read_units3 (t : Fin cfg0.N) (j : Fin 128) (k : Fin 2048) :
    iblk m c 3 t (ix2 j k) = m ((c : Thread nD τ).loc main_arg0) (ix2 ⟨32 * (16 * t.val + 8) + j.val, by have := lt4 t; omega⟩ k) := by
  have hi : win0_3.index t 0 = 4 * t.val + 2 ∧ win0_3.index t 1 = 0 := by
    rcases fin_N0 t with rfl | rfl | rfl | rfl <;> decide +kernel
  unfold iblk
  rw [View.read_apply]
  show V m c main_arg0 _ = m (c.tc.loc main_arg0) _
  unfold V
  congr 1
  funext a
  apply Fin.ext
  match a with
  | ⟨0, _⟩ => show win0_3.index t 0 * 128 + 1 * j.val = 32 * (16 * t.val + 8) + j.val; rw [hi.1]; omega
  | ⟨1, _⟩ => show win0_3.index t 1 * 2048 + 1 * k.val = k.val; rw [hi.2]; omega

/-- The fourth block of units of step `t`. -/
theorem read_units4 (t : Fin cfg0.N) (j : Fin 128) (k : Fin 2048) :
    iblk m c 4 t (ix2 j k) = m ((c : Thread nD τ).loc main_arg0) (ix2 ⟨32 * (16 * t.val + 12) + j.val, by have := lt4 t; omega⟩ k) := by
  have hi : win0_4.index t 0 = 4 * t.val + 3 ∧ win0_4.index t 1 = 0 := by
    rcases fin_N0 t with rfl | rfl | rfl | rfl <;> decide +kernel
  unfold iblk
  rw [View.read_apply]
  show V m c main_arg0 _ = m (c.tc.loc main_arg0) _
  unfold V
  congr 1
  funext a
  apply Fin.ext
  match a with
  | ⟨0, _⟩ => show win0_4.index t 0 * 128 + 1 * j.val = 32 * (16 * t.val + 12) + j.val; rw [hi.1]; omega
  | ⟨1, _⟩ => show win0_4.index t 1 * 2048 + 1 * k.val = k.val; rw [hi.2]; omega

end Cert.KernelIdeal.Som

end
-- ==== Proof.Distance.lean ====
module

public import Idealize.ShloMosaic.PureOps
public import Idealize.ShloMosaic.Lib.Pointwise

/-!
# The distance of one unit

The squared distance between the image and one unit of the map, and sums against a mask that marks one run of
thirty-two positions.
-/

@[expose] public section

noncomputable section

open Idealize.ShloMosaic

namespace Cert.Som

/-- The shape of the image. -/
abbrev Image : Shape := ⟨2, ![32, 32]⟩

/-- The shape of the array of all units: sixty-four by sixty-four units of thirty-two by thirty-two numbers. -/
abbrev Units : Shape := ⟨2, ![2048, 2048]⟩

/-- Position `r` of the `a`-th run of thirty-two. -/
abbrev at32 (a : Fin 64) (r : Fin 32) : Fin 2048 := ⟨32 * a.val + r.val, by omega⟩

/-- The squared distance between the image `x` and the unit in row `a` and column `b` of the map `s`. -/
def cell (x : Image.Idx → EReal) (s : Units.Idx → EReal) (a b : Fin 64) : EReal :=
  ∑ r : Fin 32, ∑ k : Fin 32,
    (x (ix2 r k) - s (ix2 (at32 a r) (at32 b k))) * (x (ix2 r k) - s (ix2 (at32 a r) (at32 b k)))

/-- The squared distances listed row by row. -/
def flat (x : Image.Idx → EReal) (s : Units.Idx → EReal) (k : ℕ) : EReal :=
  cell x s ⟨k / 64 % 64, Nat.mod_lt _ (by decide)⟩ ⟨k % 64, Nat.mod_lt _ (by decide)⟩

/-- The unit in row `a` and column `b` stands at position `64 * a + b`. -/
theorem flat_eq (x : Image.Idx → EReal) (s : Units.Idx → EReal) (a b : Fin 64) (k : ℕ) (hk : k = 64 * a.val + b.val) :
    flat x s k = cell x s a b := by
  have ha := a.isLt
  have hb := b.isLt
  unfold flat
  congr 1 <;> apply Fin.ext
  · show k / 64 % 64 = a.val
    omega
  · show k % 64 = b.val
    omega

/-- Summing against the mask of the `u`-th run of thirty-two positions is summing over that run. -/
theorem sum_mask {N : ℕ} (u : ℕ) (hu : 32 * u + 32 ≤ N) (g : Fin N → EReal) :
    ∑ j : Fin N, (if j.val / 32 = u then (1 : EReal) else 0) * g j = ∑ r : Fin 32, g ⟨32 * u + r.val, by omega⟩ := by
  have e : ∀ j : Fin N, (if j.val / 32 = u then (1 : EReal) else 0) * g j = if j.val / 32 = u then g j else 0 := by
    intro j; split <;> simp
  simp only [e]
  rw [← Finset.sum_filter]
  symm
  refine Finset.sum_bij' (fun r _ => (⟨32 * u + r.val, by omega⟩ : Fin N))
    (fun j hj => (⟨j.val % 32, Nat.mod_lt _ (by decide)⟩ : Fin 32)) ?_ ?_ ?_ ?_ ?_
  · intro r _
    refine Finset.mem_filter.mpr ⟨Finset.mem_univ _, ?_⟩
    show (32 * u + r.val) / 32 = u
    omega
  · intro j _; exact Finset.mem_univ _
  · intro r _
    apply Fin.ext
    show (32 * u + r.val) % 32 = r.val
    omega
  · intro j hj
    have hj' := (Finset.mem_filter.mp hj).2
    apply Fin.ext
    show 32 * u + j.val % 32 = j.val
    omega
  · intro r _; rfl

/-- The same with the mask on the right. -/
theorem sum_mask_right {N : ℕ} (u : ℕ) (hu : 32 * u + 32 ≤ N) (g : Fin N → EReal) :
    ∑ j : Fin N, g j * (if j.val / 32 = u then (1 : EReal) else 0) = ∑ r : Fin 32, g ⟨32 * u + r.val, by omega⟩ := by
  rw [← sum_mask u hu g]
  exact Finset.sum_congr rfl fun j _ => mul_comm _ _

end Cert.Som

end
-- ==== Proof.Block.lean ====
module

public import proofs.«01_k».proof.Proof.Step
public import proofs.«01_k».proof.Proof.Distance
public import Idealize.ShloMosaic.Lib.Pipeline.Value

/-!
# The block of distances

Each step multiplies the squared differences by two masks of zeros and ones. Read at an index, the product is the
squared distance of one unit.
-/

@[expose] public section

noncomputable section

open Idealize.ShloMosaic Idealize.ShloMosaic.TcCoe Idealize.SL.Sem

namespace Cert.KernelIdeal.Som

open Cert.KernelIdeal Cert.KernelIdeal.Gen Cert.Som

/-- The quotient by thirty-two, rounded down, as the kernel computes it on a vector of words. -/
def quot32 (v : BitVec 32) : BitVec 32 :=
  Scalar.select
    (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 32#32 0#32)) (Scalar.extui (Scalar.cmpi .slt 32#32 0#32))))
      (IntOp.cmpi .ne (IntOp.remsi .vector v 32#32) 0#32))
    (IntOp.subi (IntOp.divsi .vector v 32#32) 1#32) (IntOp.divsi .vector v 32#32)

set_option maxRecDepth 100000 in
/-- On the positions that occur it is the quotient of the natural numbers. -/
theorem quot32_eq : ∀ n : Fin 2048, quot32 (BitVec.ofNat 32 n.val) = BitVec.ofNat 32 (n.val / 32) := by
  unfold quot32
  decide +kernel

/-- Whether two small numbers are equal, as the number one or zero. -/
theorem indicator (a b : ℕ) (ha : a < 2 ^ 32) (hb : b < 2 ^ 32) :
    (FloatOps.sitofp .f32 (BitVec.setWidth 32 (IntOp.cmpi .eq (BitVec.ofNat 32 a) (BitVec.ofNat 32 b))) : Ideal .f32)
      = if a = b then (1 : EReal) else 0 := by
  show (((BitVec.setWidth 32 (IntOp.cmpi .eq (BitVec.ofNat 32 a) (BitVec.ofNat 32 b))).toInt : ℝ) : EReal) = _
  by_cases h : a = b
  · rw [if_pos h, (WordCmp.cmpi_eq_ofNat_eq_one_iff ha hb).mpr h]
    simp
  · rw [if_neg h, (WordCmp.cmpi_eq_ofNat_eq_zero_iff ha hb).mpr h]
    simp

/-- The mask of columns: one where the column of the image belongs to the column of units, zero elsewhere. -/
theorem cols_apply (k : Fin 2048) (q : Fin 64) :
    (k0_pay4 : FVec Ideal S2048x64 .f32) (ix2 k q) = if k.val / 32 = q.val then (1 : EReal) else 0 := by
  have e := quot32_eq k
  unfold quot32 at e
  pointwise [k0_pay4]
  rw [e]
  exact indicator _ _ (by omega) (by omega)

/-- The mask of rows: one where the row of the image belongs to the row of units, zero elsewhere. -/
theorem rows_apply (u : Fin 4) (j : Fin 128) :
    (amask (F := Ideal)) (ix2 u j) = if j.val / 32 = u.val then (1 : EReal) else 0 := by
  have e := quot32_eq ⟨j.val, by omega⟩
  unfold quot32 at e
  pointwise [k0_pay7, k0_pay5, k0_pay6]
  rw [e]
  exact indicator _ _ (by omega) (by omega)

/-- The repeated image at an index is the image at the index's remainders by thirty-two. -/
theorem tile_apply (x : FVec Ideal S32x32 .f32) (j : Fin 128) (k : Fin 2048) :
    k0_pay3 x (ix2 j k) = x (ix2 ⟨j.val % 32, by omega⟩ ⟨k.val % 32, by omega⟩) := by
  unfold k0_pay3
  rw [shapeCast_self]
  refine (concatenate_replicate_apply (t := S128x2048) (s₁ := S32x2048) 0 4 _ _ rfl (ix2 j k)
    (ix2 ⟨j.val % 32, by omega⟩ k) rfl ?_).trans ?_
  · intro b hb
    fin_cases b
    · exact absurd rfl hb
    · rfl
  · refine concatenate_replicate_apply (t := S32x2048) (s₁ := S32x32) 1 64 x _ rfl _
      (ix2 ⟨j.val % 32, by omega⟩ ⟨k.val % 32, by omega⟩) rfl ?_
    intro b hb
    fin_cases b
    · rfl
    · exact absurd rfl hb

/-- The squared differences of one block of units, summed over the rows of the image in the block's `u`-th row of
units: the block begins at row `32 * a` of the array of all units. -/
theorem rowSum (x : FVec Ideal S32x32 .f32) (som : Units.Idx → EReal) (s : FVec Ideal S128x2048 .f32) (a : ℕ)
    (ha : a + 4 ≤ 64) (h : ∀ (j : Fin 128) (k : Fin 2048), s (ix2 j k) = som (ix2 ⟨32 * a + j.val, by omega⟩ k))
    (u : Fin 4) (k : Fin 2048) :
    ∑ j : Fin 128, (amask (F := Ideal)) (ix2 u j)
        * ((k0_pay3 (F := Ideal) x (ix2 j k) - s (ix2 j k)) * (k0_pay3 (F := Ideal) x (ix2 j k) - s (ix2 j k)))
      = ∑ r : Fin 32, (x (ix2 r ⟨k.val % 32, by omega⟩) - som (ix2 (at32 ⟨a + u.val, by omega⟩ r) k))
          * (x (ix2 r ⟨k.val % 32, by omega⟩) - som (ix2 (at32 ⟨a + u.val, by omega⟩ r) k)) := by
  simp only [rows_apply]
  refine (sum_mask (N := 128) u.val (by omega) _).trans (Finset.sum_congr rfl fun r _ => ?_)
  rw [tile_apply, h]
  have e1 : (⟨(32 * u.val + r.val) % 32, Nat.mod_lt _ (by decide)⟩ : Fin 32) = r := Fin.ext (by dsimp only; omega)
  have e2 : (⟨32 * a + (32 * u.val + r.val), by omega⟩ : Fin 2048) = at32 ⟨a + u.val, by omega⟩ r :=
    Fin.ext (by dsimp only [at32]; omega)
  rw [e1, e2]

/-- Row `p` of the four products with the mask of rows, stacked, at column `k`. -/
def stackedRow (x : FVec Ideal S32x32 .f32) (s1 s2 s3 s4 : FVec Ideal S128x2048 .f32) (p : Fin 16) (k : Fin 2048) : EReal :=
  if h : p.val < 4 then
    ∑ j : Fin 128, (amask (F := Ideal)) (ix2 (⟨p.val, h⟩ : Fin 4) j)
      * ((k0_pay3 (F := Ideal) x (ix2 j k) - s1 (ix2 j k)) * (k0_pay3 (F := Ideal) x (ix2 j k) - s1 (ix2 j k)))
  else if h : p.val - 4 < 4 then
    ∑ j : Fin 128, (amask (F := Ideal)) (ix2 (⟨p.val - 4, h⟩ : Fin 4) j)
      * ((k0_pay3 (F := Ideal) x (ix2 j k) - s2 (ix2 j k)) * (k0_pay3 (F := Ideal) x (ix2 j k) - s2 (ix2 j k)))
  else if h : p.val - 4 - 4 < 4 then
    ∑ j : Fin 128, (amask (F := Ideal)) (ix2 (⟨p.val - 4 - 4, h⟩ : Fin 4) j)
      * ((k0_pay3 (F := Ideal) x (ix2 j k) - s3 (ix2 j k)) * (k0_pay3 (F := Ideal) x (ix2 j k) - s3 (ix2 j k)))
  else
    ∑ j : Fin 128, (amask (F := Ideal)) (ix2 (⟨p.val - 4 - 4 - 4, by omega⟩ : Fin 4) j)
      * ((k0_pay3 (F := Ideal) x (ix2 j k) - s4 (ix2 j k)) * (k0_pay3 (F := Ideal) x (ix2 j k) - s4 (ix2 j k)))

/-- The block of distances of step `t` at an index: the squared distance of the unit that the index names. -/
theorem block_apply (t : Fin 4) (x : FVec Ideal S32x32 .f32) (som : Units.Idx → EReal)
    (s1 s2 s3 s4 : FVec Ideal S128x2048 .f32)
    (h1 : ∀ (j : Fin 128) (k : Fin 2048), s1 (ix2 j k) = som (ix2 ⟨32 * (16 * t.val) + j.val, by omega⟩ k))
    (h2 : ∀ (j : Fin 128) (k : Fin 2048), s2 (ix2 j k) = som (ix2 ⟨32 * (16 * t.val + 4) + j.val, by omega⟩ k))
    (h3 : ∀ (j : Fin 128) (k : Fin 2048), s3 (ix2 j k) = som (ix2 ⟨32 * (16 * t.val + 8) + j.val, by omega⟩ k))
    (h4 : ∀ (j : Fin 128) (k : Fin 2048), s4 (ix2 j k) = som (ix2 ⟨32 * (16 * t.val + 12) + j.val, by omega⟩ k))
    (p : Fin 16) (q : Fin 64) :
    k0_pay8 (F := Ideal) (k0_pay3 (F := Ideal) x) (k0_pay4 (F := Ideal)) (amask (F := Ideal)) s1 s2 s3 s4 (ix2 p q) = cell x som ⟨16 * t.val + p.val, by omega⟩ q := by
  have rows : ∀ k : Fin 2048, stackedRow x s1 s2 s3 s4 p k
      = ∑ r : Fin 32, (x (ix2 r ⟨k.val % 32, by omega⟩) - som (ix2 (at32 ⟨16 * t.val + p.val, by omega⟩ r) k))
          * (x (ix2 r ⟨k.val % 32, by omega⟩) - som (ix2 (at32 ⟨16 * t.val + p.val, by omega⟩ r) k)) := by
    intro k
    unfold stackedRow
    split
    · exact rowSum x som s1 (16 * t.val) (by omega) h1 ⟨p.val, by omega⟩ k
    split
    · refine (rowSum x som s2 (16 * t.val + 4) (by omega) h2 ⟨p.val - 4, by omega⟩ k).trans ?_
      simp only [show 16 * t.val + 4 + (p.val - 4) = 16 * t.val + p.val by omega]
    split
    · refine (rowSum x som s3 (16 * t.val + 8) (by omega) h3 ⟨p.val - 4 - 4, by omega⟩ k).trans ?_
      simp only [show 16 * t.val + 8 + (p.val - 4 - 4) = 16 * t.val + p.val by omega]
    · refine (rowSum x som s4 (16 * t.val + 12) (by omega) h4 ⟨p.val - 4 - 4 - 4, by omega⟩ k).trans ?_
      simp only [show 16 * t.val + 12 + (p.val - 4 - 4 - 4) = 16 * t.val + p.val by omega]
  have e : k0_pay8 (F := Ideal) (k0_pay3 (F := Ideal) x) (k0_pay4 (F := Ideal)) (amask (F := Ideal)) s1 s2 s3 s4 (ix2 p q)
      = ∑ k : Fin 2048, stackedRow x s1 s2 s3 s4 p k * (k0_pay4 : FVec Ideal S2048x64 .f32) (ix2 k q) := by
    unfold stackedRow
    pointwise [k0_pay8]
  rw [e]
  simp only [cols_apply, rows]
  refine (sum_mask_right (N := 2048) q.val (by omega) _).trans ?_
  unfold cell
  rw [Finset.sum_comm]
  refine Finset.sum_congr rfl fun r _ => Finset.sum_congr rfl fun k _ => ?_
  have e1 : (⟨(32 * q.val + k.val) % 32, Nat.mod_lt _ (by decide)⟩ : Fin 32) = k := Fin.ext (by dsimp only; omega)
  rw [e1]

end Cert.KernelIdeal.Som

end
-- ==== Proof.Search.lean ====
module

public import Idealize.ShloMosaic.PureOps
public import Idealize.ShloMosaic.Lib.Pointwise
public import Idealize.ShloMosaic.Lib.WordCmp

/-!
# The first position of the least value

What it means that a position is the first one at which a sequence takes its least value, and three ways to find it: the
least of a block together with the least position in the block where it is taken; from one block to the next; and by
going through the sequence one element at a time.
-/

@[expose] public section

noncomputable section

open Idealize.ShloMosaic

namespace Cert.Som

/-- The bit pattern of the positive infinity is the greatest extended real. -/
theorem ofBits_top : Ideal.ofBits .f32 0x7F800000#32 = ⊤ := by simp [Ideal.ofBits, Ideal.ieee]

/-- `k` is the first position, among those from `a` up to but not including `b`, where `f` is least. -/
structure FirstMin (f : ℕ → EReal) (a b k : ℕ) : Prop where
  ge : a ≤ k
  lt : k < b
  least : ∀ j, a ≤ j → j < b → f k ≤ f j
  first : ∀ j, a ≤ j → j < k → f k < f j

/-- There is only one such position. -/
theorem FirstMin.unique {f : ℕ → EReal} {a b k l : ℕ} (hk : FirstMin f a b k) (hl : FirstMin f a b l) : k = l := by
  rcases lt_trichotomy k l with h | h | h
  · exact absurd (hk.least l hl.ge hl.lt) (not_le.mpr (hl.first k hk.ge h))
  · exact h
  · exact absurd (hl.least k hk.ge hk.lt) (not_le.mpr (hk.first l hl.ge h))

/-- Two neighbouring ranges: the later one's position is taken exactly where its value is strictly less. -/
theorem FirstMin.append {f : ℕ → EReal} {a b c k l : ℕ} (hk : FirstMin f a b k) (hl : FirstMin f b c l) :
    FirstMin f a c (if f l < f k then l else k) := by
  have hab : a ≤ b := le_trans hk.ge (le_of_lt hk.lt)
  have hbc : b ≤ c := le_trans hl.ge (le_of_lt hl.lt)
  split
  next h =>
    refine ⟨le_trans hab hl.ge, hl.lt, fun j h1 h2 => ?_, fun j h1 h2 => ?_⟩
    · by_cases hj : j < b
      · exact le_trans (le_of_lt h) (hk.least j h1 hj)
      · exact hl.least j (not_lt.mp hj) h2
    · by_cases hj : j < b
      · exact lt_of_lt_of_le h (hk.least j h1 hj)
      · exact hl.first j (not_lt.mp hj) h2
  next h =>
    refine ⟨hk.ge, lt_of_lt_of_le hk.lt hbc, fun j h1 h2 => ?_, hk.first⟩
    by_cases hj : j < b
    · exact hk.least j h1 hj
    · exact le_trans (not_lt.mp h) (hl.least j (not_lt.mp hj) h2)

/-- The signed minimum of two words is at most either of them. -/
theorem minsi_le (x y : BitVec 32) : (IntOp.minsi x y).toInt ≤ x.toInt ∧ (IntOp.minsi x y).toInt ≤ y.toInt := by
  unfold IntOp.minsi
  simp only [BitVec.slt, decide_eq_true_eq]
  split <;> constructor <;> omega

/-- A fold by the signed minimum is at most each of its members. -/
theorem fold_minsi_le {ι : Type} (c : BitVec 32) (g : ι → BitVec 32) (S : Finset ι) (x : ι) (hx : x ∈ S) :
    (S.fold IntOp.minsi c g).toInt ≤ (g x).toInt := by
  classical
  induction S using Finset.induction_on with
  | empty => exact absurd hx (Finset.notMem_empty x)
  | insert y S hy ih =>
    rw [Finset.fold_insert hy]
    rcases Finset.mem_insert.mp hx with rfl | h
    · exact (minsi_le _ _).1
    · exact le_trans (minsi_le _ _).2 (ih h)

/-- A fold by the signed minimum is its start or one of its members. -/
theorem fold_minsi_mem {ι : Type} (c : BitVec 32) (g : ι → BitVec 32) (S : Finset ι) :
    S.fold IntOp.minsi c g = c ∨ ∃ x ∈ S, S.fold IntOp.minsi c g = g x := by
  classical
  induction S using Finset.induction_on with
  | empty => exact Or.inl rfl
  | insert y S hy ih =>
    rw [Finset.fold_insert hy]
    unfold IntOp.minsi
    split
    · exact Or.inr ⟨y, Finset.mem_insert_self y S, rfl⟩
    · rcases ih with h | ⟨x, hx, h⟩
      · exact Or.inl h
      · exact Or.inr ⟨x, Finset.mem_insert_of_mem hx, h⟩

/-- The position, among all units, of the entry in row `p` and column `q` of the block of step `t`. -/
abbrev pos (t : ℕ) (x : Fin 16 × Fin 64) : ℕ := 1024 * t + 64 * x.1.val + x.2.val

/-- The least of a block and the least position where the block takes it are the value at, and the position of, the
first least value of the block's positions. -/
theorem blockFirst (f : ℕ → EReal) (t : ℕ) (ht : t < 4) (A : Fin 16 × Fin 64 → EReal) (hA : ∀ x, A x = f (pos t x)) (v : EReal)
    (hv : v = Finset.univ.fold min ⊤ A) (w : BitVec 32)
    (hw : w = Finset.univ.fold IntOp.minsi 2147483647#32
      (fun x => if A x = v then BitVec.ofNat 32 (pos t x) else 1073741824#32)) :
    ∃ k, FirstMin f (1024 * t) (1024 * (t + 1)) k ∧ v = f k ∧ w = BitVec.ofNat 32 k := by
  have toInt_pos : ∀ x, (BitVec.ofNat 32 (pos t x)).toInt = (pos t x : Int) := fun x =>
    WordCmp.toInt_ofNat_of_lt (by dsimp only [pos]; omega)
  have le_v : ∀ x, v ≤ A x := fun x => by
    rw [hv]; exact Finset.inf_le (f := A) (Finset.mem_univ x)
  obtain ⟨x0, -, h0⟩ := Finset.exists_mem_eq_inf (Finset.univ : Finset (Fin 16 × Fin 64)) ⟨(0, 0), Finset.mem_univ _⟩ A
  have h0' : A x0 = v := by rw [hv]; exact h0.symm
  have w_le : ∀ x, A x = v → w.toInt ≤ (pos t x : Int) := fun x hx => by
    have := fold_minsi_le 2147483647#32 (fun x => if A x = v then BitVec.ofNat 32 (pos t x) else 1073741824#32)
      Finset.univ x (Finset.mem_univ x)
    rw [← hw, if_pos hx, toInt_pos] at this
    exact this
  have small := w_le x0 h0'
  have w_mem : ∃ x, A x = v ∧ w = BitVec.ofNat 32 (pos t x) := by
    rcases fold_minsi_mem 2147483647#32 (fun x => if A x = v then BitVec.ofNat 32 (pos t x) else 1073741824#32)
      (Finset.univ : Finset (Fin 16 × Fin 64)) with h | ⟨x, -, h⟩
    · rw [← hw] at h
      rw [h, show (2147483647#32 : BitVec 32).toInt = 2147483647 from by decide] at small
      exfalso; dsimp only [pos] at small; omega
    · rw [← hw] at h
      by_cases hx : A x = v
      · rw [if_pos hx] at h; exact ⟨x, hx, h⟩
      · rw [if_neg hx] at h
        rw [h, show (1073741824#32 : BitVec 32).toInt = 1073741824 from by decide] at small
        exfalso; dsimp only [pos] at small; omega
  obtain ⟨x, hx, hwx⟩ := w_mem
  have split : ∀ j, 1024 * t ≤ j → j < 1024 * (t + 1) → ∃ y, pos t y = j := fun j h1 h2 =>
    ⟨(⟨(j - 1024 * t) / 64, by omega⟩, ⟨(j - 1024 * t) % 64, by omega⟩), by dsimp only [pos]; omega⟩
  refine ⟨pos t x, ⟨by dsimp only [pos]; omega, by dsimp only [pos]; omega, fun j h1 h2 => ?_, fun j h1 h2 => ?_⟩, ?_, hwx⟩
  · obtain ⟨y, rfl⟩ := split j h1 h2
    rw [← hA, ← hA, hx]; exact le_v y
  · obtain ⟨y, rfl⟩ := split j h1 (lt_trans h2 (by dsimp only [pos]; omega))
    rw [← hA, ← hA, hx]
    refine lt_of_le_of_ne (le_v y) fun hy => ?_
    have := w_le y hy.symm
    rw [hwx, toInt_pos] at this
    omega
  · rw [← hA, hx]

/-- Of two values with their positions, the lesser value; of equal values, the lesser position. -/
def keep (a b : EReal × BitVec 32) : EReal × BitVec 32 :=
  (if a.1 < b.1 then a.1 else b.1, if a.1 < b.1 ∨ (a.1 = b.1 ∧ a.2.toInt < b.2.toInt) then a.2 else b.2)

/-- Going through the sequence from its start, one element at a time, ends at the first position of the least value. -/
theorem scanFirst (f : ℕ → EReal) (n : ℕ) (hn : n < 2147483647) :
    ∃ k, FirstMin f 0 (n + 1) k
      ∧ (List.range (n + 1)).foldl (fun acc j => keep acc (f j, BitVec.ofNat 32 j)) (⊤, 0#32) = (f k, BitVec.ofNat 32 k) := by
  induction n with
  | zero =>
    refine ⟨0, ⟨le_refl _, by omega, fun j _ h => ?_, fun j _ h => absurd h (by omega)⟩, ?_⟩
    · have : j = 0 := by omega
      rw [this]
    · simp [List.range_succ, keep]
  | succ n ih =>
    obtain ⟨k, hk, he⟩ := ih (by omega)
    have hone : FirstMin f (n + 1) (n + 1 + 1) (n + 1) :=
      ⟨le_refl _, by omega, fun j h1 h2 => by rw [show j = n + 1 by omega], fun j h1 h2 => absurd h2 (by omega)⟩
    refine ⟨_, hk.append hone, ?_⟩
    rw [List.range_succ, List.foldl_append, he]
    have hlt := hk.lt
    have hw : (BitVec.ofNat 32 k).toInt < (BitVec.ofNat 32 (n + 1)).toInt := by
      rw [WordCmp.toInt_ofNat_of_lt (by omega), WordCmp.toInt_ofNat_of_lt (by omega)]; omega
    show keep (f k, BitVec.ofNat 32 k) (f (n + 1), BitVec.ofNat 32 (n + 1)) = _
    unfold keep
    rcases lt_trichotomy (f k) (f (n + 1)) with h | h | h
    · simp only [h, true_or, if_true, not_lt.mpr (le_of_lt h), if_false]
    · simp only [h, lt_irrefl, if_false, false_or, true_and, hw, if_true]
    · simp only [not_lt.mpr (le_of_lt h), ne_of_gt h, false_and, or_false, if_false, h, if_true]

end Cert.Som

end
-- ==== Proof.Best.lean ====
module

public import proofs.«01_k».proof.Proof.Blocks
public import proofs.«01_k».proof.Proof.Block
public import proofs.«01_k».proof.Proof.Search
public import Idealize.ShloMosaic.Lib.Pointwise

/-!
# The least distance and its position

Each step's block of distances, the least of them and the position of it; and the pair that is carried from step to step,
which after the last step is the least of all distances and the first position of it.
-/

@[expose] public section

noncomputable section

open Idealize.ShloMosaic Idealize.ShloMosaic.TcCoe Idealize.SL.Sem

namespace Cert.KernelIdeal.Som

open Cert.KernelIdeal Cert.KernelIdeal.Gen Cert.Som

variable (m : (ℓ : Loc nD τ sig) → Buf (Elt Ideal) ℓ) (c : Dev nD)

/-- The image. -/
abbrev image : Image.Idx → EReal := m ((c : Thread nD τ).loc main_arg2)

/-- The units. -/
abbrev units : Units.Idx → EReal := m ((c : Thread nD τ).loc main_arg0)

/-- The block of distances of step `t`: sixteen rows of units from row `16 * t` on. -/
theorem dist_apply (t : Fin cfg0.N) (p : Fin 16) (q : Fin 64) :
    dist m c t (ix2 p q) = cell (image m c) (units m c) ⟨16 * t.val + p.val, by have := lt4 t; omega⟩ q := by
  unfold dist tile
  rw [read_image]
  exact block_apply ⟨t.val, lt4 t⟩ (image m c) (units m c) _ _ _ _ (read_units1 m c t) (read_units2 m c t)
    (read_units3 m c t) (read_units4 m c t) p q

/-- The least element of a block. -/
theorem least_eq (t : Fin cfg0.N) :
    least m c t = Finset.univ.fold min (⊤ : EReal) (fun x : Fin 16 × Fin 64 => dist m c t (ix2 x.1 x.2)) := by
  unfold least dist
  generalize tile m c = T
  pointwise [k0_pay9]
  rw [ofBits_top]

/-- The coordinate of step `t` is `t`. -/
theorem coord_eq (t : Fin cfg0.N) : (grid0.coords t 0).val = t.val := by
  rcases fin_N0 t with rfl | rfl | rfl | rfl <;> decide +kernel

/-- The word the kernel forms for a place of a block is the position of that place among all units. -/
theorem word_eq (t : ℕ) (x : Fin 16 × Fin 64) :
    IntOp.addi (IntOp.muli (IntOp.addi (BitVec.ofNat 32 x.1.val) (Scalar.muli (BitVec.ofNat 32 t) 16#32)) 64#32)
      (BitVec.ofNat 32 x.2.val) = BitVec.ofNat 32 (pos t x) := by
  show IntOp.addi (IntOp.muli (IntOp.addi (BitVec.ofNat 32 x.1.val) (IntOp.muli (BitVec.ofNat 32 t) (BitVec.ofNat 32 16)))
    (BitVec.ofNat 32 64)) (BitVec.ofNat 32 x.2.val) = _
  rw [WordCmp.muli_ofNat, WordCmp.addi_ofNat, WordCmp.muli_ofNat, WordCmp.addi_ofNat]
  congr 1
  unfold pos
  omega

/-- The position of the least element of a block, as the kernel computes it: the least position where it is taken. -/
theorem leastIdx_eq (t : Fin cfg0.N) :
    leastIdx m c t = Finset.univ.fold IntOp.minsi 2147483647#32
      (fun x : Fin 16 × Fin 64 => if dist m c t (ix2 x.1 x.2) = least m c t then BitVec.ofNat 32 (pos t.val x) else 1073741824#32) := by
  unfold leastIdx
  generalize dist m c t = A
  generalize least m c t = v
  pointwise [blockIdx, k0_pay1]
  simp only [coord_eq, word_eq]

/-- A step's least distance stands first, in that step's block, at the position the step computes. -/
theorem step_first (t : Fin cfg0.N) :
    ∃ k, FirstMin (flat (image m c) (units m c)) (1024 * t.val) (1024 * (t.val + 1)) k
      ∧ least m c t = flat (image m c) (units m c) k ∧ leastIdx m c t = BitVec.ofNat 32 k := by
  refine blockFirst _ t.val (lt4 t) (fun x => dist m c t (ix2 x.1 x.2)) (fun x => ?_) _ (least_eq m c t) _ (leastIdx_eq m c t)
  rw [dist_apply]
  refine (flat_eq _ _ _ _ _ ?_).symm
  show 1024 * t.val + 64 * x.1.val + x.2.val = 64 * (16 * t.val + x.1.val) + x.2.val
  omega

/-- The pair carried after step `n`: the least of the distances of the steps so far and the first position of it. -/
theorem best_first (n : ℕ) (hn : n < cfg0.N) :
    ∃ k, FirstMin (flat (image m c) (units m c)) 0 (1024 * (n + 1)) k
      ∧ best m c n hn = (flat (image m c) (units m c) k, BitVec.ofNat 32 k) := by
  induction n with
  | zero =>
    obtain ⟨k, hk, h1, h2⟩ := step_first m c ⟨0, hn⟩
    refine ⟨k, hk, ?_⟩
    unfold best
    rw [h1, h2]
  | succ n ih =>
    obtain ⟨k, hk, he⟩ := ih (Nat.lt_of_succ_lt hn)
    obtain ⟨l, hl, h1, h2⟩ := step_first m c ⟨n + 1, hn⟩
    refine ⟨_, hk.append hl, ?_⟩
    unfold best
    rw [he, h1, h2, Ideal.scalar_cmpf_def]
    dsimp only
    by_cases h : flat (image m c) (units m c) l < flat (image m c) (units m c) k <;>
      simp [Scalar.select, Ideal.cmp, h]

/-- After the last step: the first position of the least of all distances. -/
theorem best_last (hn : 3 < cfg0.N) :
    ∃ k, FirstMin (flat (image m c) (units m c)) 0 4096 k ∧ (best m c 3 hn).2 = BitVec.ofNat 32 k := by
  obtain ⟨k, hk, he⟩ := best_first m c 3 hn
  exact ⟨k, hk, by rw [he]⟩

end Cert.KernelIdeal.Som

end
-- ==== Proof.Reference.lean ====
module

public import proofs.«01_k».proof.Proof.Gen.ReferenceIdeal
public import proofs.«01_k».proof.Proof.Distance
public import proofs.«01_k».proof.Proof.Search
public import Idealize.ShloMosaic.Lib.IdealHost
public import Idealize.ShloMosaic.Lib.Pipeline.Value

/-!
# What the reference computes

The two arrays the reference returns, as functions of its arguments. Where the running variance plus the small constant
is one, the first holds the squared distances; the second is computed from the first position of the least of them.
-/

@[expose] public section

noncomputable section

open Idealize.ShloMosaic Idealize.SL.Sem

namespace Cert.ReferenceIdeal.Som

open Cert.ReferenceIdeal Cert.Som Facts₀ Facts

/-- The differences between the image, repeated for every unit, and the units. -/
def diffs (x : FVec Ideal S32x32 .f32) (s : FVec Ideal S2048x2048 .f32) : FVec Ideal S2048x2048 .f32 :=
  subf
    (fun i => shapeCast S2048x2048
      (broadcastInDim S64x32x64x32 ![0, 1, 2, 3] bcast_S1x32x1x32_S64x32x64x32_0_1_2_3
        (fun i => shapeCast S1x32x1x32 x shapeCasts_S32x32_S1x32x1x32 i))
      shapeCasts_S64x32x64x32_S2048x2048 i)
    s

/-- The squared differences, each divided by the running variance plus the small constant. -/
def quotients (x : FVec Ideal S32x32 .f32) (rv s : FVec Ideal S2048x2048 .f32) : FVec Ideal S2048x2048 .f32 :=
  Host.divf (mulf (diffs x s) (diffs x s))
    (addf rv (broadcastInDim S2048x2048 ![] bcast_S_S2048x2048 (constant S_ .f32 0x322BCC77#32)))

/-- The first array returned: the quotients summed over each unit. -/
def unitMap (x : FVec Ideal S32x32 .f32) (rv s : FVec Ideal S2048x2048 .f32) : FVec Ideal S64x64 .f32 :=
  Host.reduceAdd (fun i => shapeCast S64x32x64x32 (quotients x rv s) shapeCasts_S2048x2048_S64x32x64x32 i)
    (constant S_ .f32 0x00000000#32) reducesTo_S64x32x64x32_S64x64_d1_3 h_S_

/-- The position of the least element of an array of units, found one element at a time. -/
def position (u : FVec Ideal S64x64 .f32) : IVec S_ 32 := fun j =>
  (Host.argReduce (reducer_argmin_f32_i32 (F := Ideal)) (fun i => shapeCast S4096 u shapeCasts_S64x64_S4096 i)
    (iotaInDim S4096 32 0) (constant S_ .f32 0x7F800000#32) (constantI S_ 32 0#32) reducesTo_S4096_S_d0 h_S_ j).2

/-- The quotient by sixty-four, rounded down. -/
def floorDiv (w : IVec S_ 32) : IVec S_ 32 :=
  select
    (andi (cmpi .ne (signi w) (signi (constantI S_ 32 64#32)))
      (cmpi .ne (Host.remsi w (constantI S_ 32 64#32)) (constantI S_ 32 0#32)))
    (subi (Host.divsi w (constantI S_ 32 64#32)) (constantI S_ 32 1#32)) (Host.divsi w (constantI S_ 32 64#32))

/-- The divisor of the remainder: sixty-four, unless that were zero. -/
def divisor : IVec S_ 32 :=
  select (cmpi .eq (constantI S_ 32 64#32) (constantI S_ 32 0#32)) (constantI S_ 32 1#32) (constantI S_ 32 64#32)

/-- The remainder by sixty-four, of the divisor's sign. -/
def floorRem (w : IVec S_ 32) : IVec S_ 32 :=
  select
    (andi (cmpi .ne (cmpi .slt (Host.remsi w divisor) (constantI S_ 32 0#32)) (cmpi .slt divisor (constantI S_ 32 0#32)))
      (cmpi .ne (Host.remsi w divisor) (constantI S_ 32 0#32)))
    (addi (Host.remsi w divisor) divisor) (Host.remsi w divisor)

/-- The second array returned: the row and the column of a position. -/
def rowCol (w : IVec S_ 32) : IVec S2 32 :=
  concatenate S2 0 [⟨S1, broadcastInDim S1 ![] bcast_S_S1 (floorDiv w)⟩, ⟨S1, broadcastInDim S1 ![] bcast_S_S1 (floorRem w)⟩]
    concatenates_S1_S1_S2_d0

/-- A difference at a position of a unit. -/
theorem diffs_apply (x : FVec Ideal S32x32 .f32) (s : FVec Ideal S2048x2048 .f32) (a : Fin 64) (r : Fin 32) (b : Fin 64)
    (k : Fin 32) : diffs x s (ix2 (at32 a r) (at32 b k)) = x (ix2 r k) - s (ix2 (at32 a r) (at32 b k)) := by
  unfold diffs
  show (shapeCast S2048x2048 _ shapeCasts_S64x32x64x32_S2048x2048 (ix2 (at32 a r) (at32 b k)) : EReal) - _ = _
  congr 1
  refine (shapeCast_apply _ _ _ (ix4 a r b k) ?_).trans ?_
  · rw [Shape.rowMajor_val_four, Shape.rowMajor_val_two]
    show ((a.val * 32 + r.val) * 64 + b.val) * 32 + k.val = (32 * a.val + r.val) * 2048 + (32 * b.val + k.val)
    omega
  refine (broadcastInDim_apply _ _ _ _ (ix4 (0 : Fin 1) r (0 : Fin 1) k) ?_).trans ?_
  · intro d
    match d with
    | ⟨0, _⟩ => rfl
    | ⟨1, _⟩ => rfl
    | ⟨2, _⟩ => rfl
    | ⟨3, _⟩ => rfl
  refine shapeCast_apply _ _ _ (ix2 r k) ?_
  rw [Shape.rowMajor_val_four, Shape.rowMajor_val_two]
  show r.val * 32 + k.val = ((0 * 32 + r.val) * 1 + 0) * 32 + k.val
  omega

/-- The sum over the second and fourth axes keeps the first coordinate as the row. -/
theorem drop_row (i : S64x32x64x32.Idx) : (reducesTo_S64x32x64x32_S64x64_d1_3.drop i 0).val = (i 0).val :=
  Shape.ReducesTo.drop_apply_val_of_eq reducesTo_S64x32x64x32_S64x64_d1_3 i 0 0

/-- It keeps the third coordinate as the column. -/
theorem drop_col (i : S64x32x64x32.Idx) : (reducesTo_S64x32x64x32_S64x64_d1_3.drop i 1).val = (i 2).val :=
  Shape.ReducesTo.drop_apply_val_of_eq reducesTo_S64x32x64x32_S64x64_d1_3 i 1 2

/-- The source indices that the sum over the second and fourth axes sends to one unit are that unit's own. -/
theorem sum_unit (v : S64x32x64x32.Idx → EReal) (a b : Fin 64) :
    ∑ i ∈ Finset.univ.filter (fun i => reducesTo_S64x32x64x32_S64x64_d1_3.drop i = ix2 a b), v i
      = ∑ r : Fin 32, ∑ k : Fin 32, v (ix4 a r b k) := by
  rw [← Fintype.sum_prod_type' fun r k => v (ix4 a r b k)]
  refine Finset.sum_filter_eq_sum_of_fiber _ (fun k : Fin 32 × Fin 32 => ix4 a k.1 b k.2)
    (fun _ _ e => Prod.ext (congrFun e 1) (congrFun e 3)) (fun i => ?_) v
  constructor
  · intro h
    refine ⟨(i 1, i 3), ?_⟩
    have h0 := congrArg Fin.val (congrFun h 0)
    have h1 := congrArg Fin.val (congrFun h 1)
    rw [drop_row] at h0
    rw [drop_col] at h1
    funext d; apply Fin.ext
    match d with
    | ⟨0, _⟩ => exact h0.symm
    | ⟨1, _⟩ => rfl
    | ⟨2, _⟩ => exact h1.symm
    | ⟨3, _⟩ => rfl
  · rintro ⟨k, rfl⟩
    funext d; apply Fin.ext
    match d with
    | ⟨0, _⟩ => exact drop_row _
    | ⟨1, _⟩ => exact drop_col _

/-- Where the divisor is one everywhere, the first array holds the squared distances. -/
theorem unitMap_apply (x : FVec Ideal S32x32 .f32) (rv s : FVec Ideal S2048x2048 .f32)
    (h : ∀ i, (rv i : EReal) + Ideal.ofBits .f32 0x322BCC77#32 = 1) (a b : Fin 64) :
    unitMap x rv s (ix2 a b) = cell x s a b := by
  unfold unitMap
  rw [ValueIdx.hostReduceAdd_apply]
  unfold Ideal.hostReduceAdd
  rw [sum_unit, constant_apply]
  show Ideal.ofBits .f32 0x00000000#32 + _ = _
  rw [Ideal.ofBits_zero_f32, zero_add]
  unfold cell
  refine Finset.sum_congr rfl fun r _ => Finset.sum_congr rfl fun k _ => ?_
  refine (shapeCast_apply _ _ _ (ix2 (at32 a r) (at32 b k)) ?_).trans ?_
  · rw [Shape.rowMajor_val_four, Shape.rowMajor_val_two]
    show (32 * a.val + r.val) * 2048 + (32 * b.val + k.val) = ((a.val * 32 + r.val) * 64 + b.val) * 32 + k.val
    omega
  unfold quotients
  rw [ValueIdx.hostDivf_apply]
  show Ideal.div (diffs x s (ix2 (at32 a r) (at32 b k)) * diffs x s (ix2 (at32 a r) (at32 b k)))
    (rv (ix2 (at32 a r) (at32 b k)) + Ideal.ofBits .f32 0x322BCC77#32) = _
  rw [diffs_apply]
  rw [h, ← EReal.coe_one, Ideal.div_coe one_ne_zero]
  simp

/-- One step of the search keeps the lesser value, and of equal values the lesser position. -/
theorem reducer_eq (a b : EReal × BitVec 32) : reducer_argmin_f32_i32 (F := Ideal) a b = keep a b := by
  unfold reducer_argmin_f32_i32 keep
  rcases a with ⟨a, v⟩
  rcases b with ⟨b, w⟩
  simp only [Ideal.cmpf_def, Ideal.cmp, Scalar.select, IntOp.cmpi, BitVec.slt]
  by_cases h1 : a < b <;> by_cases h2 : a = b <;> by_cases h3 : v.toInt < w.toInt <;>
    simp [h1, h2, h3, IntOp.ori, IntOp.andi]

/-- The search ends at the first position of the least element. -/
theorem position_eq (u : FVec Ideal S64x64 .f32) (f : ℕ → EReal)
    (hf : ∀ a b : Fin 64, u (ix2 a b) = f (64 * a.val + b.val)) :
    ∃ k, FirstMin f 0 4096 k ∧ position u = fun _ => BitVec.ofNat 32 k := by
  obtain ⟨k, hk, he⟩ := scanFirst f 4095 (by decide)
  refine ⟨k, hk, funext fun j => ?_⟩
  unfold position
  rw [Ideal.argReduce_eq_reduce2, Host.reduce2_eq_foldl_fiber]
  unfold Host.argReduceFiber
  have hall : (List.filter (fun n => decide (reducesTo_S4096_S_d0.drop (S4096.rowMajor.symm n) = j)) (List.finRange S4096.numel))
      = List.finRange S4096.numel :=
    List.filter_eq_self.mpr fun n _ => decide_eq_true (funext fun d => d.elim0)
  have hpos : ∀ n : Fin S4096.numel, ((S4096.rowMajor.symm n) 0).val = n.val := by
    intro n
    have e := Shape.rowMajor_val_one (S4096.rowMajor.symm n)
    rw [Equiv.apply_symm_apply] at e
    exact e.symm
  have hval : ∀ n : Fin S4096.numel, shapeCast S4096 u shapeCasts_S64x64_S4096 (S4096.rowMajor.symm n) = f n.val := by
    intro n
    have hn : n.val < 4096 := n.isLt
    refine (shapeCast_apply _ _ _ (ix2 (⟨n.val / 64, by omega⟩ : Fin 64) (⟨n.val % 64, by omega⟩ : Fin 64)) ?_).trans ?_
    · rw [Shape.rowMajor_val_two, Equiv.apply_symm_apply]
      show n.val / 64 * 64 + n.val % 64 = n.val
      omega
    · rw [hf]
      show f (64 * (n.val / 64) + n.val % 64) = f n.val
      congr 1
      omega
  rw [hall, List.foldl_map]
  have hstep : (fun (acc : EReal × BitVec 32) (n : Fin S4096.numel) => reducer_argmin_f32_i32 (F := Ideal) acc
      (shapeCast S4096 u shapeCasts_S64x64_S4096 (S4096.rowMajor.symm n), iotaInDim S4096 32 0 (S4096.rowMajor.symm n)))
      = fun acc n => keep acc (f n.val, BitVec.ofNat 32 n.val) := by
    funext acc n
    rw [reducer_eq, hval, ValueIdx.iotaInDim_apply, hpos]
  have htop : ((constant S_ .f32 0x7F800000#32 : FVec Ideal S_ .f32) (Shape.Idx.first h_S_), (constantI S_ 32 0#32) (Shape.Idx.first h_S_))
      = ((⊤ : EReal), 0#32) :=
    Prod.ext ofBits_top rfl
  refine congrArg Prod.snd (?_ : _ = (f k, BitVec.ofNat 32 k))
  refine Eq.trans ?_ he
  rw [htop]
  refine (congrFun (congrFun (congrArg List.foldl hstep) _) _).trans ?_
  rw [show (4095 + 1 : ℕ) = 4096 from rfl, ← List.map_coe_finRange_eq_range, List.foldl_map]
  rfl

end Cert.ReferenceIdeal.Som

end
-- ==== Proof.Words.lean ====
module

public import proofs.«01_k».proof.Proof.Step
public import proofs.«01_k».proof.Proof.Reference

/-!
# The row and the column of a position

Both programs split a position below 4096 into its quotient and its remainder by sixty-four, each in its own words.
-/

@[expose] public section

noncomputable section

open Idealize.ShloMosaic Idealize.SL.Sem

namespace Cert.KernelIdeal.Som

set_option maxRecDepth 100000 in
/-- The kernel's row is the quotient. -/
theorem quotWord_eq : ∀ n : Fin 4096, quotWord (BitVec.ofNat 32 n.val) = BitVec.ofNat 32 (n.val / 64) := by
  unfold quotWord
  decide +kernel

set_option maxRecDepth 100000 in
/-- The kernel's column is the remainder. -/
theorem remWord_eq : ∀ n : Fin 4096, remWord (BitVec.ofNat 32 n.val) = BitVec.ofNat 32 (n.val % 64) := by
  unfold remWord divisor
  decide +kernel

end Cert.KernelIdeal.Som

namespace Cert.ReferenceIdeal.Som

open Cert.ReferenceIdeal Facts₀ Facts

set_option maxRecDepth 100000 in
/-- The reference's row is the quotient. -/
theorem floorDiv_eq (j : S_.Idx) :
    ∀ n : Fin 4096, floorDiv (fun _ => BitVec.ofNat 32 n.val) j = BitVec.ofNat 32 (n.val / 64) := by
  show ∀ n : Fin 4096,
    Scalar.select
      (IntOp.andi
        (IntOp.cmpi .ne
          (if BitVec.ofNat 32 n.val = 0 then (0 : BitVec 32) else if (BitVec.ofNat 32 n.val).msb then -1 else 1)
          (if (64#32) = 0 then (0 : BitVec 32) else if (64#32).msb then -1 else 1))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64)
  decide +kernel

/-- The reference's divisor is sixty-four. -/
theorem divisor_eq : divisor = constantI S_ 32 64#32 := rfl

set_option maxRecDepth 100000 in
/-- The reference's column is the remainder. -/
theorem floorRem_eq (j : S_.Idx) :
    ∀ n : Fin 4096, floorRem (fun _ => BitVec.ofNat 32 n.val) j = BitVec.ofNat 32 (n.val % 64) := by
  unfold floorRem
  rw [divisor_eq]
  show ∀ n : Fin 4096,
    Scalar.select
      (IntOp.andi
        (IntOp.cmpi .ne (IntOp.cmpi .slt (IntOp.remsi .host (BitVec.ofNat 32 n.val) 64#32) 0#32)
          (IntOp.cmpi .slt 64#32 0#32))
        (IntOp.cmpi .ne (IntOp.remsi .host (BitVec.ofNat 32 n.val) 64#32) 0#32))
      (IntOp.addi (IntOp.remsi .host (BitVec.ofNat 32 n.val) 64#32) 64#32)
      (IntOp.remsi .host (BitVec.ofNat 32 n.val) 64#32) = BitVec.ofNat 32 (n.val % 64)
  decide +kernel

/-- The second array holds the row and then the column. -/
theorem rowCol_apply (k : ℕ) (hk : k < 4096) (y : S2.Idx) :
    rowCol (fun _ => BitVec.ofNat 32 k) y
      = if (y 0).val = 0 then BitVec.ofNat 32 (k / 64) else BitVec.ofNat 32 (k % 64) := by
  have hy : (y 0).val < 2 := (y 0).isLt
  unfold rowCol
  by_cases h : (y 0).val = 0
  · rw [if_pos h]
    refine (concatenate_pair_apply_left (t := S2) (s₁ := S1) (s₂ := S1) 0 _ _ _ y rfl (ix1 (0 : Fin 1)) ?_).trans ?_
    · intro b
      match b with
      | ⟨0, _⟩ => exact h.symm
    · exact floorDiv_eq _ ⟨k, hk⟩
  · rw [if_neg h]
    refine (concatenate_pair_apply_right (t := S2) (s₁ := S1) (s₂ := S1) 0 _ _ _ y rfl rfl (ix1 (0 : Fin 1)) ?_ ?_).trans ?_
    · intro b hb
      match b with
      | ⟨0, _⟩ => exact absurd rfl hb
    · show 0 + 1 = (y 0).val
      omega
    · exact floorRem_eq _ ⟨k, hk⟩

end Cert.ReferenceIdeal.Som

end
-- ==== Proof.Result.lean ====
module

public import proofs.«01_k».proof.Proof.Best
public import proofs.«01_k».proof.Proof.Words
public import proofs.«01_k».proof.Proof.Gen.KernelIdeal.Value

/-!
# The arrays the kernel leaves

Every step writes its block of distances into the first result; the last step writes the row and the column of the least
distance into the second.
-/

@[expose] public section

noncomputable section

open Idealize.ShloMosaic Idealize.ShloMosaic.TcCoe Idealize.SL.Sem

namespace Cert.KernelIdeal.Som

open Cert.KernelIdeal Cert.KernelIdeal.Gen Cert.Som

variable (m : (ℓ : Loc nD τ sig) → Buf (Elt Ideal) ℓ) (c : Dev nD)

/-- The squared distances as contents of the first result. -/
abbrev mapResult : Buf (Elt Ideal) ((c : Thread nD τ).loc main_v0_0) := fun i => cell (image m c) (units m c) (i 0) (i 1)

/-- The row and the column found, as contents of the second result. -/
abbrev bmuResult (hn : 3 < cfg0.N) : Buf (Elt Ideal) ((c : Thread nD τ).loc main_v0_1) :=
  fun y => if (y 0).val = 0 then quotWord (best m c 3 hn).2 else remWord (best m c 3 hn).2

/-- The block of the first result that step `t` writes starts at row `16 * t`. -/
theorem idx5 (t : Fin cfg0.N) : win0_5.index t 0 = t.val ∧ win0_5.index t 1 = 0 := by
  rcases fin_N0 t with rfl | rfl | rfl | rfl <;> decide +kernel

/-- Each step writes its block of the squared distances. -/
theorem flushed_map (t : Fin cfg0.N) :
    (dats m 0 c).flushed 5 t = ((cfg0.win 5).blk t).view.read (Elt Ideal) (mapResult m c) := by
  rw [Cert.KernelIdeal.Value.flushed5, (state m c t.val t.isLt).1]
  funext y
  rw [View.read_apply]
  have hy0 : (y 0).val < 16 := (y 0).isLt
  have hy1 : (y 1).val < 64 := (y 1).isLt
  show dist m c t _ = mapResult m c _
  refine (congrArg (dist m c t) (?_ : _ = ix2 (⟨(y 0).val, hy0⟩ : Fin 16) (⟨(y 1).val, hy1⟩ : Fin 64))).trans ?_
  · funext a
    match a with
    | ⟨0, _⟩ => rfl
    | ⟨1, _⟩ => rfl
  · rw [dist_apply]
    show _ = cell _ _ _ _
    congr 1 <;> apply Fin.ext
    · show 16 * t.val + (y 0).val = win0_5.index t 0 * 16 + 1 * (y 0).val
      rw [(idx5 t).1]
      omega
    · show (y 1).val = win0_5.index t 1 * 64 + 1 * (y 1).val
      rw [(idx5 t).2]
      omega

/-- So the first result ends holding the squared distances. -/
theorem final_map : (dats m 0 c).arrAt 5 cfg0.N = mapResult m c :=
  (dats m 0 c).arrAt_eq_of_cover 5 (mapResult m c) (fun t _ => flushed_map m c t) fun i => by
    have h0 : (i 0 : Nat) < 64 := (i 0).isLt
    have h1 : (i 1 : Nat) < 64 := (i 1).isLt
    have hN : cfg0.N = 4 := N_0
    let t : Fin cfg0.N := ⟨(i 0 : Nat) / 16, by omega⟩
    refine ⟨t, flush0_5 t, ?_⟩
    show i ∈ ((View.whole main_v0_0).slice (win0_5.rect t)).set
    rw [View.set_slice_whole, Rect.mem_set_unit]
    have hx : win0_5.xsize (grid0.coords t) 0 = 16 ∧ win0_5.xsize (grid0.coords t) 1 = 64 := by
      rcases fin_N0 t with h | h | h | h <;> rw [h] <;> decide +kernel
    intro a
    match a with
    | ⟨0, _⟩ =>
      show win0_5.index t 0 * 16 ≤ (i 0 : Nat) ∧ (i 0 : Nat) < win0_5.index t 0 * 16 + win0_5.xsize (grid0.coords t) 0
      rw [(idx5 t).1, hx.1]
      show (i 0 : Nat) / 16 * 16 ≤ (i 0 : Nat) ∧ (i 0 : Nat) < (i 0 : Nat) / 16 * 16 + 16
      omega
    | ⟨1, _⟩ =>
      show win0_5.index t 1 * 64 ≤ (i 1 : Nat) ∧ (i 1 : Nat) < win0_5.index t 1 * 64 + win0_5.xsize (grid0.coords t) 1
      rw [(idx5 t).2, hx.2]
      omega

/-- The one write of the second result, at the last step. -/
theorem flushed_bmu (hn : 3 < cfg0.N) (t : Fin cfg0.N) (hf : (cfg0.win 6).flush t = true) :
    (dats m 0 c).flushed 6 t = ((cfg0.win 6).blk t).view.read (Elt Ideal) (bmuResult m c hn) := by
  have h3 : t.val = 3 := by
    have := (flush0_6 t).mp hf
    have := lt4 t
    omega
  obtain rfl : t = t0_3 := Fin.ext h3
  rw [Cert.KernelIdeal.Value.flushed6, state_bmu m c t0_3.val t0_3.isLt h3]
  have hz' : (fun a => win0_6.index t0_3 a * main_v0_1.ty.shape.size a) = fun _ => 0 := funext fun a => by fin_cases a; decide
  exact (Memref.read_access_unit_zero (Elt Ideal) main_v0_1 hz' (fun a => by rw [congrFun hz' a]; simp) (bmuResult m c hn)).symm

/-- So the second result ends holding the row and the column found. -/
theorem final_bmu (hn : 3 < cfg0.N) : (dats m 0 c).arrAt 6 cfg0.N = bmuResult m c hn :=
  (dats m 0 c).arrAt_eq_of_cover 6 (bmuResult m c hn) (flushed_bmu m c hn) fun i =>
    ⟨t0_3, (flush0_6 t0_3).mpr rfl, by
      show i ∈ ((View.whole main_v0_1).slice (win0_6.rect t0_3)).set
      rw [View.set_slice_whole, Rect.mem_set_unit]
      intro a
      have h0 : (i 0 : Nat) < 2 := (i 0).isLt
      match a with
      | ⟨0, _⟩ =>
        show win0_6.index t0_3 0 * win0_6.size 0 ≤ (i 0 : Nat)
          ∧ (i 0 : Nat) < win0_6.index t0_3 0 * win0_6.size 0 + win0_6.xsize (grid0.coords t0_3) 0
        rw [show win0_6.index t0_3 0 * win0_6.size 0 = 0 from by decide +kernel,
          show win0_6.xsize (grid0.coords t0_3) 0 = 2 from by decide +kernel]
        omega⟩

end Cert.KernelIdeal.Som

end
-- ==== Proof.Equation.lean ====
module

public import proofs.«01_k».proof.Defs
public import proofs.«01_k».proof.Proof.Result
public import proofs.«01_k».proof.Proof.Gen.Pre_unit_denominator

/-!
# The two programs agree

Under the precondition, each array the kernel leaves is the array the reference computes.
-/

@[expose] public section

noncomputable section

open Idealize.ShloMosaic Idealize.ShloMosaic.TcCoe Idealize.SL.Sem

namespace Cert.Som

open Cert.KernelIdeal Cert.KernelIdeal.Gen Cert.KernelIdeal.Som

variable (m : (ℓ : Loc nD τ sig) → Buf (Elt Ideal) ℓ) (c : Dev nD)

/-- The running variance. -/
abbrev variance : Units.Idx → EReal := m ((c : Thread nD τ).loc main_arg1)

/-- The precondition says that the running variance plus the small constant is one everywhere. -/
theorem one_of_pre (hpre : Cert.Pre_KernelIdeal_unit_denominator m) (i : Units.Idx) :
    variance m c i + Ideal.ofBits .f32 0x322BCC77#32 = 1 := by
  have h := congrFun (hpre c) i
  unfold Cert.Pre_unit_denominator.fn at h
  have h' : BitVec.ofBool (decide (variance m c i + Ideal.ofBits .f32 0x322BCC77#32 = Ideal.ofBits .f32 0x3F800000#32)) = 1#1 := h
  rw [Ideal.ofBits_one_f32] at h'
  by_contra hne
  rw [decide_eq_false hne] at h'
  exact absurd h' (by decide)

/-- The first array. -/
theorem map_eq (hpre : Cert.Pre_KernelIdeal_unit_denominator m) :
    Cert.ReferenceIdeal.Som.unitMap (image m c) (variance m c) (units m c) = (dats m 0 c).arrAt 5 cfg0.N := by
  rw [final_map]
  funext i
  rw [eq_ix2 i]
  exact Cert.ReferenceIdeal.Som.unitMap_apply _ _ _ (one_of_pre m c hpre) _ _

/-- The second array: both programs find the same position, which is the first one of the least distance. -/
theorem bmu_eq (hpre : Cert.Pre_KernelIdeal_unit_denominator m) :
    Cert.ReferenceIdeal.Som.rowCol
        (Cert.ReferenceIdeal.Som.position (Cert.ReferenceIdeal.Som.unitMap (image m c) (variance m c) (units m c)))
      = (dats m 0 c).arrAt 6 cfg0.N := by
  have hn : 3 < cfg0.N := by rw [show cfg0.N = 4 from N_0]; decide
  rw [final_bmu m c hn]
  obtain ⟨k, hk, he⟩ := best_last m c hn
  obtain ⟨l, hl, hp⟩ := Cert.ReferenceIdeal.Som.position_eq
    (Cert.ReferenceIdeal.Som.unitMap (image m c) (variance m c) (units m c)) (flat (image m c) (units m c)) (fun a b => by
      rw [Cert.ReferenceIdeal.Som.unitMap_apply _ _ _ (one_of_pre m c hpre)]
      exact (flat_eq _ _ a b _ rfl).symm)
  obtain rfl := hk.unique hl
  rw [hp]
  funext y
  refine (Cert.ReferenceIdeal.Som.rowCol_apply k hk.lt y).trans ?_
  show _ = if (y 0).val = 0 then quotWord (best m c 3 hn).2 else remWord (best m c 3 hn).2
  rw [he, quotWord_eq ⟨k, hk.lt⟩, remWord_eq ⟨k, hk.lt⟩]

end Cert.Som

end
-- ==== Proof.lean ====
/- The proof that the kernel keeps its arguments and computes what the reference computes: the claim of Defs.lean, put
   together from the kernel's run, the reference's run and the two equations of Proof/Equation.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_unit_denominator
public import proofs.«01_k».proof.Proof.Equation
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem Cert.Kernel

/-- The reference runs to its end, leaves its arguments as they were and every semaphore counter at zero. -/
theorem reference_frame : Cert.quiescent_ReferenceIdeal := by
  intro m g _
  hlo_run
  · exact fun _ => ⟨trivial, trivial, trivial, trivial⟩
  · exact sem_eq_zero_of_no_sems rfl _

/-- Under the precondition both programs end with equal results. -/
theorem equal_results : Cert.algebraic_KernelIdeal_ReferenceIdeal_pre_unit_denominator := by
  pair_intro
  · run_from (Cert.KernelIdeal.Value.run_blocks m g)
  · hlo_run
    · exact Cert.Som.map_eq m c hpre
    · simp only [StableHlo.TRef.ofBuf, StableHlo.TRef.toBuf, cast_eq]
      exact Cert.Som.bmu_eq m c hpre

/-- All claims. -/
theorem claim : Cert.Claim :=
  ⟨Cert.Kernel.Gen.facts, Cert.KernelIdeal.Gen.facts, Cert.ReferenceIdeal.Gen.facts, Cert.Pre_unit_denominator.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, equal_results⟩

end Cert.Proof

end
